-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16384x26 : Shape := ⟨2, ![16384, 26]⟩
abbrev S26x100000x16 : Shape := ⟨3, ![26, 100000, 16]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S26x100000x16 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S26x100000x16 : Shape := ⟨3, ![26, 100000, 16]⟩
abbrev S26x16x100000 : Shape := ⟨3, ![26, 16, 100000]⟩
abbrev S26x16384 : Shape := ⟨2, ![26, 16384]⟩
abbrev S26x16x16384 : Shape := ⟨3, ![26, 16, 16384]⟩
abbrev S100000 : Shape := ⟨1, ![100000]⟩
abbrev S16384 : Shape := ⟨1, ![16384]⟩
abbrev S4096 : Shape := ⟨1, ![4096]⟩
abbrev S_ : Shape := ⟨0, ![]⟩
abbrev S1x1x100000 : Shape := ⟨3, ![1, 1, 100000]⟩
abbrev S1x16384 : Shape := ⟨2, ![1, 16384]⟩
abbrev S16 : Shape := ⟨1, ![16]⟩
abbrev S1x1x4096 : Shape := ⟨3, ![1, 1, 4096]⟩
abbrev S16384x26x16 : Shape := ⟨3, ![16384, 26, 16]⟩

abbrev nBuf : Table → Nat
  | .hbm => 6
  | .local .scVector .vmem => 4
  | _ => 0

abbrev bufTy : (tb : Table) → Fin (nBuf tb) → BufTy
  | .hbm, ⟨0, _⟩ => ⟨S16384x26, .i32⟩
  | .hbm, ⟨1, _⟩ => ⟨S26x100000x16, .f32⟩
  | .hbm, ⟨2, _⟩ => ⟨S26x16x100000, .f32⟩
  | .hbm, ⟨3, _⟩ => ⟨S26x16384, .i32⟩
  | .hbm, ⟨4, _⟩ => ⟨S26x16x16384, .f32⟩
  | .hbm, ⟨5, _⟩ => ⟨S16384x26x16, .f32⟩
  | .local .scVector .vmem, ⟨0, _⟩ => ⟨S100000, .f32⟩
  | .local .scVector .vmem, ⟨1, _⟩ => ⟨S16384, .i32⟩
  | .local .scVector .vmem, ⟨2, _⟩ => ⟨S4096, .f32⟩
  | .local .scVector .vmem, ⟨3, _⟩ => ⟨S4096, .f32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v1_scv : Ref sig .scVector := ⟨.hbm, 3, rfl⟩
abbrev main_v2_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32 : BitVec 32 := 16#32
  let c0_i32_2 : BitVec 32 := 0#32
  let v10 : BitVec 1 := Scalar.cmpi .sgt c16_i32 c0_i32_2
  let v11 : BitVec 32 := Scalar.extui v10
  let c0_i32_3 : BitVec 32 := 0#32
  let v12 : BitVec 1 := Scalar.cmpi .slt c16_i32 c0_i32_3
  let v13 : BitVec 32 := Scalar.extui v12
  let v14 : BitVec 32 := Scalar.subi v11 v13
  let v15 : BitVec 1 := Scalar.cmpi .ne v9 v14
  let v16 : BitVec 32 := Scalar.remsi v3 c16_i32
  let c0_i32_4 : BitVec 32 := 0#32
  let v17 : BitVec 1 := Scalar.cmpi .ne v16 c0_i32_4
  let v18 : BitVec 1 := Scalar.andi v15 v17
  let v4 : BitVec 32 := Scalar.divsi v3 c16_i32
  let c1_i32 : BitVec 32 := 1#32
  let v19 : BitVec 32 := Scalar.subi v4 c1_i32
  let v20 : BitVec 32 := Scalar.select v18 v19 v4
  let c16_i32_5 : BitVec 32 := 16#32
  let v21 : BitVec 32 := Scalar.muli v20 c16_i32_5
  let v22 : BitVec 32 := Scalar.subi v3 v21
  let c0_i32_6 : BitVec 32 := 0#32
  ![v20.toNat, v22.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32 : BitVec 32 := 13#32
  let v2 : BitVec 32 := Scalar.muli v1 c13_i32
  let c0_i32 : BitVec 32 := 0#32
  let v3 : BitVec 32 := Scalar.addi v2 c0_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c16_i32 : BitVec 32 := 16#32
  let c0_i32_2 : BitVec 32 := 0#32
  let v10 : BitVec 1 := Scalar.cmpi .sgt c16_i32 c0_i32_2
  let v11 : BitVec 32 := Scalar.extui v10
  let c0_i32_3 : BitVec 32 := 0#32
  let v12 : BitVec 1 := Scalar.cmpi .slt c16_i32 c0_i32_3
  let v13 : BitVec 32 := Scalar.extui v12
  let v14 : BitVec 32 := Scalar.subi v11 v13
  let v15 : BitVec 1 := Scalar.cmpi .ne v9 v14
  let v16 : BitVec 32 := Scalar.remsi v3 c16_i32
  let c0_i32_4 : BitVec 32 := 0#32
  let v17 : BitVec 1 := Scalar.cmpi .ne v16 c0_i32_4
  let v18 : BitVec 1 := Scalar.andi v15 v17
  let v4 : BitVec 32 := Scalar.divsi v3 c16_i32
  let c1_i32 : BitVec 32 := 1#32
  let v19 : BitVec 32 := Scalar.subi v4 c1_i32
  let v20 : BitVec 32 := Scalar.select v18 v19 v4
  let c0_i32_722_r0 : BitVec 32 := 0#32
  ![v20.toNat, 0]
@[reducible] def k0_t1_loop : Scf.Loop 32 :=
  let c0_i32_20 : BitVec 32 := 0#32
  let c256_i32 : BitVec 32 := 256#32
  let v52 : BitVec 32 := Scalar.addi c0_i32_20 c256_i32
  let c1_i32_21 : BitVec 32 := 1#32
  ⟨c0_i32_20, v52, c1_i32_21⟩
def k0_off3 (k0_t1 : Fin k0_t1_loop.trips) : Fin 1 → Nat :=
  let c0_i32_726 : BitVec 32 := 0#32
  let c0_i32_723 : BitVec 32 := 0#32
  let c0_i32_20 : BitVec 32 := 0#32
  let c1_i32_21 : BitVec 32 := 1#32
  let arg12 : BitVec 32 := Scf.iv c0_i32_20 c1_i32_21 k0_t1
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk1 (v1162 : IVec S16 32) : Prop :=
  (∀ a x, ((![v1162] : Fin 1 → IVec S16 32) a x).toNat < S100000.size a)
theorem k0_idx1_inb : ∀ (v1162 : IVec S16 32) (k0_hw1 : k0_chk1 v1162), ∀ a x, ((![v1162] : Fin 1 → IVec S16 32) a x).toNat < S100000.size a := fun v1162 k0_hw1 => k0_hw1
def k0_off4 (k0_t1 : Fin k0_t1_loop.trips) : Fin 1 → Nat :=
  let c0_i32_723 : BitVec 32 := 0#32
  let c0_i32_20 : BitVec 32 := 0#32
  let c1_i32_21 : BitVec 32 := 1#32
  let arg12 : BitVec 32 := Scf.iv c0_i32_20 c1_i32_21 k0_t1
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_off5 (i : grid0.Coords) (c0_i32_9 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_8 : BitVec 32 := 13#32
  let v27 : BitVec 32 := Scalar.muli v1 c13_i32_8
  let v28 : BitVec 32 := Scalar.addi v27 c0_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c16_i32_10 : BitVec 32 := 16#32
  let c0_i32_13 : BitVec 32 := 0#32
  let v35 : BitVec 1 := Scalar.cmpi .sgt c16_i32_10 c0_i32_13
  let v36 : BitVec 32 := Scalar.extui v35
  let c0_i32_14 : BitVec 32 := 0#32
  let v37 : BitVec 1 := Scalar.cmpi .slt c16_i32_10 c0_i32_14
  let v38 : BitVec 32 := Scalar.extui v37
  let v39 : BitVec 32 := Scalar.subi v36 v38
  let v40 : BitVec 1 := Scalar.cmpi .ne v34 v39
  let v41 : BitVec 32 := Scalar.remsi v28 c16_i32_10
  let c0_i32_15 : BitVec 32 := 0#32
  let v42 : BitVec 1 := Scalar.cmpi .ne v41 c0_i32_15
  let v43 : BitVec 1 := Scalar.andi v40 v42
  let v29 : BitVec 32 := Scalar.divsi v28 c16_i32_10
  let c1_i32_16 : BitVec 32 := 1#32
  let v44 : BitVec 32 := Scalar.subi v29 c1_i32_16
  let v45 : BitVec 32 := Scalar.select v43 v44 v29
  let c16_i32_17 : BitVec 32 := 16#32
  let v46 : BitVec 32 := Scalar.muli v45 c16_i32_17
  let v47 : BitVec 32 := Scalar.subi v28 v46
  let c0_i32_23 : BitVec 32 := 0#32
  ![v45.toNat, v47.toNat, 0]
@[reducible] def k0_t2_loop : Scf.Loop 32 :=
  let c0_i32_25 : BitVec 32 := 0#32
  let c256_i32_26 : BitVec 32 := 256#32
  let v57 : BitVec 32 := Scalar.addi c0_i32_25 c256_i32_26
  let c1_i32_27 : BitVec 32 := 1#32
  ⟨c0_i32_25, v57, c1_i32_27⟩
def k0_off6 (k0_t2 : Fin k0_t2_loop.trips) : Fin 1 → Nat :=
  let c4096_i32_726 : BitVec 32 := 4096#32
  let c0_i32_723 : BitVec 32 := 0#32
  let c0_i32_25 : BitVec 32 := 0#32
  let c1_i32_27 : BitVec 32 := 1#32
  let arg12 : BitVec 32 := Scf.iv c0_i32_25 c1_i32_27 k0_t2
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk2 (v1162 : IVec S16 32) : Prop :=
  (∀ a x, ((![v1162] : Fin 1 → IVec S16 32) a x).toNat < S100000.size a)
theorem k0_idx2_inb : ∀ (v1162 : IVec S16 32) (k0_hw2 : k0_chk2 v1162), ∀ a x, ((![v1162] : Fin 1 → IVec S16 32) a x).toNat < S100000.size a := fun v1162 k0_hw2 => k0_hw2
def k0_off7 (k0_t2 : Fin k0_t2_loop.trips) : Fin 1 → Nat :=
  let c0_i32_723 : BitVec 32 := 0#32
  let c0_i32_25 : BitVec 32 := 0#32
  let c1_i32_27 : BitVec 32 := 1#32
  let arg12 : BitVec 32 := Scf.iv c0_i32_25 c1_i32_27 k0_t2
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_off8 (i : grid0.Coords) (c0_i32_9 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_8 : BitVec 32 := 13#32
  let v27 : BitVec 32 := Scalar.muli v1 c13_i32_8
  let v28 : BitVec 32 := Scalar.addi v27 c0_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c16_i32_10 : BitVec 32 := 16#32
  let c0_i32_13 : BitVec 32 := 0#32
  let v35 : BitVec 1 := Scalar.cmpi .sgt c16_i32_10 c0_i32_13
  let v36 : BitVec 32 := Scalar.extui v35
  let c0_i32_14 : BitVec 32 := 0#32
  let v37 : BitVec 1 := Scalar.cmpi .slt c16_i32_10 c0_i32_14
  let v38 : BitVec 32 := Scalar.extui v37
  let v39 : BitVec 32 := Scalar.subi v36 v38
  let v40 : BitVec 1 := Scalar.cmpi .ne v34 v39
  let v41 : BitVec 32 := Scalar.remsi v28 c16_i32_10
  let c0_i32_15 : BitVec 32 := 0#32
  let v42 : BitVec 1 := Scalar.cmpi .ne v41 c0_i32_15
  let v43 : BitVec 1 := Scalar.andi v40 v42
  let v29 : BitVec 32 := Scalar.divsi v28 c16_i32_10
  let c1_i32_16 : BitVec 32 := 1#32
  let v44 : BitVec 32 := Scalar.subi v29 c1_i32_16
  let v45 : BitVec 32 := Scalar.select v43 v44 v29
  let c16_i32_17 : BitVec 32 := 16#32
  let v46 : BitVec 32 := Scalar.muli v45 c16_i32_17
  let v47 : BitVec 32 := Scalar.subi v28 v46
  let c4096_i32 : BitVec 32 := 4096#32
  ![v45.toNat, v47.toNat, 4096]
@[reducible] def k0_t3_loop : Scf.Loop 32 :=
  let c0_i32_32 : BitVec 32 := 0#32
  let c256_i32_33 : BitVec 32 := 256#32
  let v66 : BitVec 32 := Scalar.addi c0_i32_32 c256_i32_33
  let c1_i32_34 : BitVec 32 := 1#32
  ⟨c0_i32_32, v66, c1_i32_34⟩
def k0_off9 (k0_t3 : Fin k0_t3_loop.trips) : Fin 1 → Nat :=
  let c8192_i32_726 : BitVec 32 := 8192#32
  let c0_i32_723 : BitVec 32 := 0#32
  let c0_i32_32 : BitVec 32 := 0#32
  let c1_i32_34 : BitVec 32 := 1#32
  let arg12 : BitVec 32 := Scf.iv c0_i32_32 c1_i32_34 k0_t3
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk3 (v1162 : IVec S16 32) : Prop :=
  (∀ a x, ((![v1162] : Fin 1 → IVec S16 32) a x).toNat < S100000.size a)
theorem k0_idx3_inb : ∀ (v1162 : IVec S16 32) (k0_hw3 : k0_chk3 v1162), ∀ a x, ((![v1162] : Fin 1 → IVec S16 32) a x).toNat < S100000.size a := fun v1162 k0_hw3 => k0_hw3
def k0_off10 (k0_t3 : Fin k0_t3_loop.trips) : Fin 1 → Nat :=
  let c0_i32_723 : BitVec 32 := 0#32
  let c0_i32_32 : BitVec 32 := 0#32
  let c1_i32_34 : BitVec 32 := 1#32
  let arg12 : BitVec 32 := Scf.iv c0_i32_32 c1_i32_34 k0_t3
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_off11 (i : grid0.Coords) (c0_i32_9 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_8 : BitVec 32 := 13#32
  let v27 : BitVec 32 := Scalar.muli v1 c13_i32_8
  let v28 : BitVec 32 := Scalar.addi v27 c0_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c16_i32_10 : BitVec 32 := 16#32
  let c0_i32_13 : BitVec 32 := 0#32
  let v35 : BitVec 1 := Scalar.cmpi .sgt c16_i32_10 c0_i32_13
  let v36 : BitVec 32 := Scalar.extui v35
  let c0_i32_14 : BitVec 32 := 0#32
  let v37 : BitVec 1 := Scalar.cmpi .slt c16_i32_10 c0_i32_14
  let v38 : BitVec 32 := Scalar.extui v37
  let v39 : BitVec 32 := Scalar.subi v36 v38
  let v40 : BitVec 1 := Scalar.cmpi .ne v34 v39
  let v41 : BitVec 32 := Scalar.remsi v28 c16_i32_10
  let c0_i32_15 : BitVec 32 := 0#32
  let v42 : BitVec 1 := Scalar.cmpi .ne v41 c0_i32_15
  let v43 : BitVec 1 := Scalar.andi v40 v42
  let v29 : BitVec 32 := Scalar.divsi v28 c16_i32_10
  let c1_i32_16 : BitVec 32 := 1#32
  let v44 : BitVec 32 := Scalar.subi v29 c1_i32_16
  let v45 : BitVec 32 := Scalar.select v43 v44 v29
  let c16_i32_17 : BitVec 32 := 16#32
  let v46 : BitVec 32 := Scalar.muli v45 c16_i32_17
  let v47 : BitVec 32 := Scalar.subi v28 v46
  let c8192_i32 : BitVec 32 := 8192#32
  ![v45.toNat, v47.toNat, 8192]
@[reducible] def k0_t4_loop : Scf.Loop 32 :=
  let c0_i32_39 : BitVec 32 := 0#32
  let c256_i32_40 : BitVec 32 := 256#32
  let v75 : BitVec 32 := Scalar.addi c0_i32_39 c256_i32_40
  let c1_i32_41 : BitVec 32 := 1#32
  ⟨c0_i32_39, v75, c1_i32_41⟩
def k0_off12 (k0_t4 : Fin k0_t4_loop.trips) : Fin 1 → Nat :=
  let c12288_i32_726 : BitVec 32 := 12288#32
  let c0_i32_723 : BitVec 32 := 0#32
  let c0_i32_39 : BitVec 32 := 0#32
  let c1_i32_41 : BitVec 32 := 1#32
  let arg12 : BitVec 32 := Scf.iv c0_i32_39 c1_i32_41 k0_t4
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk4 (v1162 : IVec S16 32) : Prop :=
  (∀ a x, ((![v1162] : Fin 1 → IVec S16 32) a x).toNat < S100000.size a)
theorem k0_idx4_inb : ∀ (v1162 : IVec S16 32) (k0_hw4 : k0_chk4 v1162), ∀ a x, ((![v1162] : Fin 1 → IVec S16 32) a x).toNat < S100000.size a := fun v1162 k0_hw4 => k0_hw4
def k0_off13 (k0_t4 : Fin k0_t4_loop.trips) : Fin 1 → Nat :=
  let c0_i32_723 : BitVec 32 := 0#32
  let c0_i32_39 : BitVec 32 := 0#32
  let c1_i32_41 : BitVec 32 := 1#32
  let arg12 : BitVec 32 := Scf.iv c0_i32_39 c1_i32_41 k0_t4
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_off14 (i : grid0.Coords) (c0_i32_9 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_8 : BitVec 32 := 13#32
  let v27 : BitVec 32 := Scalar.muli v1 c13_i32_8
  let v28 : BitVec 32 := Scalar.addi v27 c0_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c16_i32_10 : BitVec 32 := 16#32
  let c0_i32_13 : BitVec 32 := 0#32
  let v35 : BitVec 1 := Scalar.cmpi .sgt c16_i32_10 c0_i32_13
  let v36 : BitVec 32 := Scalar.extui v35
  let c0_i32_14 : BitVec 32 := 0#32
  let v37 : BitVec 1 := Scalar.cmpi .slt c16_i32_10 c0_i32_14
  let v38 : BitVec 32 := Scalar.extui v37
  let v39 : BitVec 32 := Scalar.subi v36 v38
  let v40 : BitVec 1 := Scalar.cmpi .ne v34 v39
  let v41 : BitVec 32 := Scalar.remsi v28 c16_i32_10
  let c0_i32_15 : BitVec 32 := 0#32
  let v42 : BitVec 1 := Scalar.cmpi .ne v41 c0_i32_15
  let v43 : BitVec 1 := Scalar.andi v40 v42
  let v29 : BitVec 32 := Scalar.divsi v28 c16_i32_10
  let c1_i32_16 : BitVec 32 := 1#32
  let v44 : BitVec 32 := Scalar.subi v29 c1_i32_16
  let v45 : BitVec 32 := Scalar.select v43 v44 v29
  let c16_i32_17 : BitVec 32 := 16#32
  let v46 : BitVec 32 := Scalar.muli v45 c16_i32_17
  let v47 : BitVec 32 := Scalar.subi v28 v46
  let c12288_i32 : BitVec 32 := 12288#32
  ![v45.toNat, v47.toNat, 12288]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_56 : BitVec 32 := 13#32
  let v105 : BitVec 32 := Scalar.muli v1 c13_i32_56
  let c1_i32_57 : BitVec 32 := 1#32
  let v106 : BitVec 32 := Scalar.addi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c16_i32_58 : BitVec 32 := 16#32
  let c0_i32_61 : BitVec 32 := 0#32
  let v113 : BitVec 1 := Scalar.cmpi .sgt c16_i32_58 c0_i32_61
  let v114 : BitVec 32 := Scalar.extui v113
  let c0_i32_62 : BitVec 32 := 0#32
  let v115 : BitVec 1 := Scalar.cmpi .slt c16_i32_58 c0_i32_62
  let v116 : BitVec 32 := Scalar.extui v115
  let v117 : BitVec 32 := Scalar.subi v114 v116
  let v118 : BitVec 1 := Scalar.cmpi .ne v112 v117
  let v119 : BitVec 32 := Scalar.remsi v106 c16_i32_58
  let c0_i32_63 : BitVec 32 := 0#32
  let v120 : BitVec 1 := Scalar.cmpi .ne v119 c0_i32_63
  let v121 : BitVec 1 := Scalar.andi v118 v120
  let v107 : BitVec 32 := Scalar.divsi v106 c16_i32_58
  let c1_i32_64 : BitVec 32 := 1#32
  let v122 : BitVec 32 := Scalar.subi v107 c1_i32_64
  let v123 : BitVec 32 := Scalar.select v121 v122 v107
  let c13_i32_8 : BitVec 32 := 13#32
  let v27 : BitVec 32 := Scalar.muli v1 c13_i32_8
  let c0_i32_9 : BitVec 32 := 0#32
  let v28 : BitVec 32 := Scalar.addi v27 c0_i32_9
  let c0_i32_11 : BitVec 32 := 0#32
  let v30 : BitVec 1 := Scalar.cmpi .sgt v28 c0_i32_11
  let v31 : BitVec 32 := Scalar.extui v30
  let c0_i32_12 : BitVec 32 := 0#32
  let v32 : BitVec 1 := Scalar.cmpi .slt v28 c0_i32_12
  let v33 : BitVec 32 := Scalar.extui v32
  let v34 : BitVec 32 := Scalar.subi v31 v33
  let c16_i32_10 : BitVec 32 := 16#32
  let c0_i32_13 : BitVec 32 := 0#32
  let v35 : BitVec 1 := Scalar.cmpi .sgt c16_i32_10 c0_i32_13
  let v36 : BitVec 32 := Scalar.extui v35
  let c0_i32_14 : BitVec 32 := 0#32
  let v37 : BitVec 1 := Scalar.cmpi .slt c16_i32_10 c0_i32_14
  let v38 : BitVec 32 := Scalar.extui v37
  let v39 : BitVec 32 := Scalar.subi v36 v38
  let v40 : BitVec 1 := Scalar.cmpi .ne v34 v39
  let v41 : BitVec 32 := Scalar.remsi v28 c16_i32_10
  let c0_i32_15 : BitVec 32 := 0#32
  let v42 : BitVec 1 := Scalar.cmpi .ne v41 c0_i32_15
  let v43 : BitVec 1 := Scalar.andi v40 v42
  let v29 : BitVec 32 := Scalar.divsi v28 c16_i32_10
  let c1_i32_16 : BitVec 32 := 1#32
  let v44 : BitVec 32 := Scalar.subi v29 c1_i32_16
  let v45 : BitVec 32 := Scalar.select v43 v44 v29
  let v126 : BitVec 1 := Scalar.cmpi .ne v123 v45
  let v127 : BitVec 32 := Scalar.extui v126
  let c0_i32_66 : BitVec 32 := 0#32
  let v128 : BitVec 1 := Scalar.cmpi .ne v127 c0_i32_66
  v128

def k0_off15 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_56 : BitVec 32 := 13#32
  let v105 : BitVec 32 := Scalar.muli v1 c13_i32_56
  let c1_i32_57 : BitVec 32 := 1#32
  let v106 : BitVec 32 := Scalar.addi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c16_i32_58 : BitVec 32 := 16#32
  let c0_i32_61 : BitVec 32 := 0#32
  let v113 : BitVec 1 := Scalar.cmpi .sgt c16_i32_58 c0_i32_61
  let v114 : BitVec 32 := Scalar.extui v113
  let c0_i32_62 : BitVec 32 := 0#32
  let v115 : BitVec 1 := Scalar.cmpi .slt c16_i32_58 c0_i32_62
  let v116 : BitVec 32 := Scalar.extui v115
  let v117 : BitVec 32 := Scalar.subi v114 v116
  let v118 : BitVec 1 := Scalar.cmpi .ne v112 v117
  let v119 : BitVec 32 := Scalar.remsi v106 c16_i32_58
  let c0_i32_63 : BitVec 32 := 0#32
  let v120 : BitVec 1 := Scalar.cmpi .ne v119 c0_i32_63
  let v121 : BitVec 1 := Scalar.andi v118 v120
  let v107 : BitVec 32 := Scalar.divsi v106 c16_i32_58
  let c1_i32_64 : BitVec 32 := 1#32
  let v122 : BitVec 32 := Scalar.subi v107 c1_i32_64
  let v123 : BitVec 32 := Scalar.select v121 v122 v107
  let c0_i32_722_r1 : BitVec 32 := 0#32
  ![v123.toNat, 0]
@[reducible] def k0_t5_loop : Scf.Loop 32 :=
  let c0_i32_71 : BitVec 32 := 0#32
  let c256_i32_72 : BitVec 32 := 256#32
  let v137 : BitVec 32 := Scalar.addi c0_i32_71 c256_i32_72
  let c1_i32_73 : BitVec 32 := 1#32
  ⟨c0_i32_71, v137, c1_i32_73⟩
def k0_off16 (k0_t5 : Fin k0_t5_loop.trips) : Fin 1 → Nat :=
  let c0_i32_726 : BitVec 32 := 0#32
  let c0_i32_723 : BitVec 32 := 0#32
  let c0_i32_71 : BitVec 32 := 0#32
  let c1_i32_73 : BitVec 32 := 1#32
  let arg12 : BitVec 32 := Scf.iv c0_i32_71 c1_i32_73 k0_t5
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk5 (v1162 : IVec S16 32) : Prop :=
  (∀ a x, ((![v1162] : Fin 1 → IVec S16 32) a x).toNat < S100000.size a)
theorem k0_idx5_inb : ∀ (v1162 : IVec S16 32) (k0_hw5 : k0_chk5 v1162), ∀ a x, ((![v1162] : Fin 1 → IVec S16 32) a x).toNat < S100000.size a := fun v1162 k0_hw5 => k0_hw5
def k0_off17 (k0_t5 : Fin k0_t5_loop.trips) : Fin 1 → Nat :=
  let c0_i32_723 : BitVec 32 := 0#32
  let c0_i32_71 : BitVec 32 := 0#32
  let c1_i32_73 : BitVec 32 := 1#32
  let arg12 : BitVec 32 := Scf.iv c0_i32_71 c1_i32_73 k0_t5
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t6_loop : Scf.Loop 32 :=
  let c0_i32_79 : BitVec 32 := 0#32
  let c256_i32_80 : BitVec 32 := 256#32
  let v146 : BitVec 32 := Scalar.addi c0_i32_79 c256_i32_80
  let c1_i32_81 : BitVec 32 := 1#32
  ⟨c0_i32_79, v146, c1_i32_81⟩
def k0_off18 (k0_t6 : Fin k0_t6_loop.trips) : Fin 1 → Nat :=
  let c4096_i32_726 : BitVec 32 := 4096#32
  let c0_i32_723 : BitVec 32 := 0#32
  let c0_i32_79 : BitVec 32 := 0#32
  let c1_i32_81 : BitVec 32 := 1#32
  let arg12 : BitVec 32 := Scf.iv c0_i32_79 c1_i32_81 k0_t6
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk6 (v1162 : IVec S16 32) : Prop :=
  (∀ a x, ((![v1162] : Fin 1 → IVec S16 32) a x).toNat < S100000.size a)
theorem k0_idx6_inb : ∀ (v1162 : IVec S16 32) (k0_hw6 : k0_chk6 v1162), ∀ a x, ((![v1162] : Fin 1 → IVec S16 32) a x).toNat < S100000.size a := fun v1162 k0_hw6 => k0_hw6
def k0_off19 (k0_t6 : Fin k0_t6_loop.trips) : Fin 1 → Nat :=
  let c0_i32_723 : BitVec 32 := 0#32
  let c0_i32_79 : BitVec 32 := 0#32
  let c1_i32_81 : BitVec 32 := 1#32
  let arg12 : BitVec 32 := Scf.iv c0_i32_79 c1_i32_81 k0_t6
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t7_loop : Scf.Loop 32 :=
  let c0_i32_87 : BitVec 32 := 0#32
  let c256_i32_88 : BitVec 32 := 256#32
  let v155 : BitVec 32 := Scalar.addi c0_i32_87 c256_i32_88
  let c1_i32_89 : BitVec 32 := 1#32
  ⟨c0_i32_87, v155, c1_i32_89⟩
def k0_off20 (k0_t7 : Fin k0_t7_loop.trips) : Fin 1 → Nat :=
  let c8192_i32_726 : BitVec 32 := 8192#32
  let c0_i32_723 : BitVec 32 := 0#32
  let c0_i32_87 : BitVec 32 := 0#32
  let c1_i32_89 : BitVec 32 := 1#32
  let arg12 : BitVec 32 := Scf.iv c0_i32_87 c1_i32_89 k0_t7
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk7 (v1162 : IVec S16 32) : Prop :=
  (∀ a x, ((![v1162] : Fin 1 → IVec S16 32) a x).toNat < S100000.size a)
theorem k0_idx7_inb : ∀ (v1162 : IVec S16 32) (k0_hw7 : k0_chk7 v1162), ∀ a x, ((![v1162] : Fin 1 → IVec S16 32) a x).toNat < S100000.size a := fun v1162 k0_hw7 => k0_hw7
def k0_off21 (k0_t7 : Fin k0_t7_loop.trips) : Fin 1 → Nat :=
  let c0_i32_723 : BitVec 32 := 0#32
  let c0_i32_87 : BitVec 32 := 0#32
  let c1_i32_89 : BitVec 32 := 1#32
  let arg12 : BitVec 32 := Scf.iv c0_i32_87 c1_i32_89 k0_t7
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t8_loop : Scf.Loop 32 :=
  let c0_i32_95 : BitVec 32 := 0#32
  let c256_i32_96 : BitVec 32 := 256#32
  let v164 : BitVec 32 := Scalar.addi c0_i32_95 c256_i32_96
  let c1_i32_97 : BitVec 32 := 1#32
  ⟨c0_i32_95, v164, c1_i32_97⟩
def k0_off22 (k0_t8 : Fin k0_t8_loop.trips) : Fin 1 → Nat :=
  let c12288_i32_726 : BitVec 32 := 12288#32
  let c0_i32_723 : BitVec 32 := 0#32
  let c0_i32_95 : BitVec 32 := 0#32
  let c1_i32_97 : BitVec 32 := 1#32
  let arg12 : BitVec 32 := Scf.iv c0_i32_95 c1_i32_97 k0_t8
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk8 (v1162 : IVec S16 32) : Prop :=
  (∀ a x, ((![v1162] : Fin 1 → IVec S16 32) a x).toNat < S100000.size a)
theorem k0_idx8_inb : ∀ (v1162 : IVec S16 32) (k0_hw8 : k0_chk8 v1162), ∀ a x, ((![v1162] : Fin 1 → IVec S16 32) a x).toNat < S100000.size a := fun v1162 k0_hw8 => k0_hw8
def k0_off23 (k0_t8 : Fin k0_t8_loop.trips) : Fin 1 → Nat :=
  let c0_i32_723 : BitVec 32 := 0#32
  let c0_i32_95 : BitVec 32 := 0#32
  let c1_i32_97 : BitVec 32 := 1#32
  let arg12 : BitVec 32 := Scf.iv c0_i32_95 c1_i32_97 k0_t8
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_113 : BitVec 32 := 13#32
  let v194 : BitVec 32 := Scalar.muli v1 c13_i32_113
  let c2_i32_114 : BitVec 32 := 2#32
  let v195 : BitVec 32 := Scalar.addi v194 c2_i32_114
  let c0_i32_116 : BitVec 32 := 0#32
  let v197 : BitVec 1 := Scalar.cmpi .sgt v195 c0_i32_116
  let v198 : BitVec 32 := Scalar.extui v197
  let c0_i32_117 : BitVec 32 := 0#32
  let v199 : BitVec 1 := Scalar.cmpi .slt v195 c0_i32_117
  let v200 : BitVec 32 := Scalar.extui v199
  let v201 : BitVec 32 := Scalar.subi v198 v200
  let c16_i32_115 : BitVec 32 := 16#32
  let c0_i32_118 : BitVec 32 := 0#32
  let v202 : BitVec 1 := Scalar.cmpi .sgt c16_i32_115 c0_i32_118
  let v203 : BitVec 32 := Scalar.extui v202
  let c0_i32_119 : BitVec 32 := 0#32
  let v204 : BitVec 1 := Scalar.cmpi .slt c16_i32_115 c0_i32_119
  let v205 : BitVec 32 := Scalar.extui v204
  let v206 : BitVec 32 := Scalar.subi v203 v205
  let v207 : BitVec 1 := Scalar.cmpi .ne v201 v206
  let v208 : BitVec 32 := Scalar.remsi v195 c16_i32_115
  let c0_i32_120 : BitVec 32 := 0#32
  let v209 : BitVec 1 := Scalar.cmpi .ne v208 c0_i32_120
  let v210 : BitVec 1 := Scalar.andi v207 v209
  let v196 : BitVec 32 := Scalar.divsi v195 c16_i32_115
  let c1_i32_121 : BitVec 32 := 1#32
  let v211 : BitVec 32 := Scalar.subi v196 c1_i32_121
  let v212 : BitVec 32 := Scalar.select v210 v211 v196
  let c13_i32_56 : BitVec 32 := 13#32
  let v105 : BitVec 32 := Scalar.muli v1 c13_i32_56
  let c1_i32_57 : BitVec 32 := 1#32
  let v106 : BitVec 32 := Scalar.addi v105 c1_i32_57
  let c0_i32_59 : BitVec 32 := 0#32
  let v108 : BitVec 1 := Scalar.cmpi .sgt v106 c0_i32_59
  let v109 : BitVec 32 := Scalar.extui v108
  let c0_i32_60 : BitVec 32 := 0#32
  let v110 : BitVec 1 := Scalar.cmpi .slt v106 c0_i32_60
  let v111 : BitVec 32 := Scalar.extui v110
  let v112 : BitVec 32 := Scalar.subi v109 v111
  let c16_i32_58 : BitVec 32 := 16#32
  let c0_i32_61 : BitVec 32 := 0#32
  let v113 : BitVec 1 := Scalar.cmpi .sgt c16_i32_58 c0_i32_61
  let v114 : BitVec 32 := Scalar.extui v113
  let c0_i32_62 : BitVec 32 := 0#32
  let v115 : BitVec 1 := Scalar.cmpi .slt c16_i32_58 c0_i32_62
  let v116 : BitVec 32 := Scalar.extui v115
  let v117 : BitVec 32 := Scalar.subi v114 v116
  let v118 : BitVec 1 := Scalar.cmpi .ne v112 v117
  let v119 : BitVec 32 := Scalar.remsi v106 c16_i32_58
  let c0_i32_63 : BitVec 32 := 0#32
  let v120 : BitVec 1 := Scalar.cmpi .ne v119 c0_i32_63
  let v121 : BitVec 1 := Scalar.andi v118 v120
  let v107 : BitVec 32 := Scalar.divsi v106 c16_i32_58
  let c1_i32_64 : BitVec 32 := 1#32
  let v122 : BitVec 32 := Scalar.subi v107 c1_i32_64
  let v123 : BitVec 32 := Scalar.select v121 v122 v107
  let v215 : BitVec 1 := Scalar.cmpi .ne v212 v123
  let v216 : BitVec 32 := Scalar.extui v215
  let c0_i32_123 : BitVec 32 := 0#32
  let v217 : BitVec 1 := Scalar.cmpi .ne v216 c0_i32_123
  v217

def k0_off24 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_113 : BitVec 32 := 13#32
  let v194 : BitVec 32 := Scalar.muli v1 c13_i32_113
  let c2_i32_114 : BitVec 32 := 2#32
  let v195 : BitVec 32 := Scalar.addi v194 c2_i32_114
  let c0_i32_116 : BitVec 32 := 0#32
  let v197 : BitVec 1 := Scalar.cmpi .sgt v195 c0_i32_116
  let v198 : BitVec 32 := Scalar.extui v197
  let c0_i32_117 : BitVec 32 := 0#32
  let v199 : BitVec 1 := Scalar.cmpi .slt v195 c0_i32_117
  let v200 : BitVec 32 := Scalar.extui v199
  let v201 : BitVec 32 := Scalar.subi v198 v200
  let c16_i32_115 : BitVec 32 := 16#32
  let c0_i32_118 : BitVec 32 := 0#32
  let v202 : BitVec 1 := Scalar.cmpi .sgt c16_i32_115 c0_i32_118
  let v203 : BitVec 32 := Scalar.extui v202
  let c0_i32_119 : BitVec 32 := 0#32
  let v204 : BitVec 1 := Scalar.cmpi .slt c16_i32_115 c0_i32_119
  let v205 : BitVec 32 := Scalar.extui v204
  let v206 : BitVec 32 := Scalar.subi v203 v205
  let v207 : BitVec 1 := Scalar.cmpi .ne v201 v206
  let v208 : BitVec 32 := Scalar.remsi v195 c16_i32_115
  let c0_i32_120 : BitVec 32 := 0#32
  let v209 : BitVec 1 := Scalar.cmpi .ne v208 c0_i32_120
  let v210 : BitVec 1 := Scalar.andi v207 v209
  let v196 : BitVec 32 := Scalar.divsi v195 c16_i32_115
  let c1_i32_121 : BitVec 32 := 1#32
  let v211 : BitVec 32 := Scalar.subi v196 c1_i32_121
  let v212 : BitVec 32 := Scalar.select v210 v211 v196
  let c0_i32_722_r2 : BitVec 32 := 0#32
  ![v212.toNat, 0]
@[reducible] def k0_t9_loop : Scf.Loop 32 :=
  let c0_i32_128 : BitVec 32 := 0#32
  let c256_i32_129 : BitVec 32 := 256#32
  let v226 : BitVec 32 := Scalar.addi c0_i32_128 c256_i32_129
  let c1_i32_130 : BitVec 32 := 1#32
  ⟨c0_i32_128, v226, c1_i32_130⟩
def k0_off25 (k0_t9 : Fin k0_t9_loop.trips) : Fin 1 → Nat :=
  let c0_i32_726 : BitVec 32 := 0#32
  let c0_i32_723 : BitVec 32 := 0#32
  let c0_i32_128 : BitVec 32 := 0#32
  let c1_i32_130 : BitVec 32 := 1#32
  let arg12 : BitVec 32 := Scf.iv c0_i32_128 c1_i32_130 k0_t9
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk9 (v1162 : IVec S16 32) : Prop :=
  (∀ a x, ((![v1162] : Fin 1 → IVec S16 32) a x).toNat < S100000.size a)
theorem k0_idx9_inb : ∀ (v1162 : IVec S16 32) (k0_hw9 : k0_chk9 v1162), ∀ a x, ((![v1162] : Fin 1 → IVec S16 32) a x).toNat < S100000.size a := fun v1162 k0_hw9 => k0_hw9
def k0_off26 (k0_t9 : Fin k0_t9_loop.trips) : Fin 1 → Nat :=
  let c0_i32_723 : BitVec 32 := 0#32
  let c0_i32_128 : BitVec 32 := 0#32
  let c1_i32_130 : BitVec 32 := 1#32
  let arg12 : BitVec 32 := Scf.iv c0_i32_128 c1_i32_130 k0_t9
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t10_loop : Scf.Loop 32 :=
  let c0_i32_136 : BitVec 32 := 0#32
  let c256_i32_137 : BitVec 32 := 256#32
  let v235 : BitVec 32 := Scalar.addi c0_i32_136 c256_i32_137
  let c1_i32_138 : BitVec 32 := 1#32
  ⟨c0_i32_136, v235, c1_i32_138⟩
def k0_off27 (k0_t10 : Fin k0_t10_loop.trips) : Fin 1 → Nat :=
  let c4096_i32_726 : BitVec 32 := 4096#32
  let c0_i32_723 : BitVec 32 := 0#32
  let c0_i32_136 : BitVec 32 := 0#32
  let c1_i32_138 : BitVec 32 := 1#32
  let arg12 : BitVec 32 := Scf.iv c0_i32_136 c1_i32_138 k0_t10
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk10 (v1162 : IVec S16 32) : Prop :=
  (∀ a x, ((![v1162] : Fin 1 → IVec S16 32) a x).toNat < S100000.size a)
theorem k0_idx10_inb : ∀ (v1162 : IVec S16 32) (k0_hw10 : k0_chk10 v1162), ∀ a x, ((![v1162] : Fin 1 → IVec S16 32) a x).toNat < S100000.size a := fun v1162 k0_hw10 => k0_hw10
def k0_off28 (k0_t10 : Fin k0_t10_loop.trips) : Fin 1 → Nat :=
  let c0_i32_723 : BitVec 32 := 0#32
  let c0_i32_136 : BitVec 32 := 0#32
  let c1_i32_138 : BitVec 32 := 1#32
  let arg12 : BitVec 32 := Scf.iv c0_i32_136 c1_i32_138 k0_t10
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t11_loop : Scf.Loop 32 :=
  let c0_i32_144 : BitVec 32 := 0#32
  let c256_i32_145 : BitVec 32 := 256#32
  let v244 : BitVec 32 := Scalar.addi c0_i32_144 c256_i32_145
  let c1_i32_146 : BitVec 32 := 1#32
  ⟨c0_i32_144, v244, c1_i32_146⟩
def k0_off29 (k0_t11 : Fin k0_t11_loop.trips) : Fin 1 → Nat :=
  let c8192_i32_726 : BitVec 32 := 8192#32
  let c0_i32_723 : BitVec 32 := 0#32
  let c0_i32_144 : BitVec 32 := 0#32
  let c1_i32_146 : BitVec 32 := 1#32
  let arg12 : BitVec 32 := Scf.iv c0_i32_144 c1_i32_146 k0_t11
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk11 (v1162 : IVec S16 32) : Prop :=
  (∀ a x, ((![v1162] : Fin 1 → IVec S16 32) a x).toNat < S100000.size a)
theorem k0_idx11_inb : ∀ (v1162 : IVec S16 32) (k0_hw11 : k0_chk11 v1162), ∀ a x, ((![v1162] : Fin 1 → IVec S16 32) a x).toNat < S100000.size a := fun v1162 k0_hw11 => k0_hw11
def k0_off30 (k0_t11 : Fin k0_t11_loop.trips) : Fin 1 → Nat :=
  let c0_i32_723 : BitVec 32 := 0#32
  let c0_i32_144 : BitVec 32 := 0#32
  let c1_i32_146 : BitVec 32 := 1#32
  let arg12 : BitVec 32 := Scf.iv c0_i32_144 c1_i32_146 k0_t11
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t12_loop : Scf.Loop 32 :=
  let c0_i32_152 : BitVec 32 := 0#32
  let c256_i32_153 : BitVec 32 := 256#32
  let v253 : BitVec 32 := Scalar.addi c0_i32_152 c256_i32_153
  let c1_i32_154 : BitVec 32 := 1#32
  ⟨c0_i32_152, v253, c1_i32_154⟩
def k0_off31 (k0_t12 : Fin k0_t12_loop.trips) : Fin 1 → Nat :=
  let c12288_i32_726 : BitVec 32 := 12288#32
  let c0_i32_723 : BitVec 32 := 0#32
  let c0_i32_152 : BitVec 32 := 0#32
  let c1_i32_154 : BitVec 32 := 1#32
  let arg12 : BitVec 32 := Scf.iv c0_i32_152 c1_i32_154 k0_t12
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk12 (v1162 : IVec S16 32) : Prop :=
  (∀ a x, ((![v1162] : Fin 1 → IVec S16 32) a x).toNat < S100000.size a)
theorem k0_idx12_inb : ∀ (v1162 : IVec S16 32) (k0_hw12 : k0_chk12 v1162), ∀ a x, ((![v1162] : Fin 1 → IVec S16 32) a x).toNat < S100000.size a := fun v1162 k0_hw12 => k0_hw12
def k0_off32 (k0_t12 : Fin k0_t12_loop.trips) : Fin 1 → Nat :=
  let c0_i32_723 : BitVec 32 := 0#32
  let c0_i32_152 : BitVec 32 := 0#32
  let c1_i32_154 : BitVec 32 := 1#32
  let arg12 : BitVec 32 := Scf.iv c0_i32_152 c1_i32_154 k0_t12
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_cond3 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_169 : BitVec 32 := 13#32
  let v283 : BitVec 32 := Scalar.muli v1 c13_i32_169
  let c3_i32_170 : BitVec 32 := 3#32
  let v284 : BitVec 32 := Scalar.addi v283 c3_i32_170
  let c0_i32_172 : BitVec 32 := 0#32
  let v286 : BitVec 1 := Scalar.cmpi .sgt v284 c0_i32_172
  let v287 : BitVec 32 := Scalar.extui v286
  let c0_i32_173 : BitVec 32 := 0#32
  let v288 : BitVec 1 := Scalar.cmpi .slt v284 c0_i32_173
  let v289 : BitVec 32 := Scalar.extui v288
  let v290 : BitVec 32 := Scalar.subi v287 v289
  let c16_i32_171 : BitVec 32 := 16#32
  let c0_i32_174 : BitVec 32 := 0#32
  let v291 : BitVec 1 := Scalar.cmpi .sgt c16_i32_171 c0_i32_174
  let v292 : BitVec 32 := Scalar.extui v291
  let c0_i32_175 : BitVec 32 := 0#32
  let v293 : BitVec 1 := Scalar.cmpi .slt c16_i32_171 c0_i32_175
  let v294 : BitVec 32 := Scalar.extui v293
  let v295 : BitVec 32 := Scalar.subi v292 v294
  let v296 : BitVec 1 := Scalar.cmpi .ne v290 v295
  let v297 : BitVec 32 := Scalar.remsi v284 c16_i32_171
  let c0_i32_176 : BitVec 32 := 0#32
  let v298 : BitVec 1 := Scalar.cmpi .ne v297 c0_i32_176
  let v299 : BitVec 1 := Scalar.andi v296 v298
  let v285 : BitVec 32 := Scalar.divsi v284 c16_i32_171
  let c1_i32_177 : BitVec 32 := 1#32
  let v300 : BitVec 32 := Scalar.subi v285 c1_i32_177
  let v301 : BitVec 32 := Scalar.select v299 v300 v285
  let c13_i32_113 : BitVec 32 := 13#32
  let v194 : BitVec 32 := Scalar.muli v1 c13_i32_113
  let c2_i32_114 : BitVec 32 := 2#32
  let v195 : BitVec 32 := Scalar.addi v194 c2_i32_114
  let c0_i32_116 : BitVec 32 := 0#32
  let v197 : BitVec 1 := Scalar.cmpi .sgt v195 c0_i32_116
  let v198 : BitVec 32 := Scalar.extui v197
  let c0_i32_117 : BitVec 32 := 0#32
  let v199 : BitVec 1 := Scalar.cmpi .slt v195 c0_i32_117
  let v200 : BitVec 32 := Scalar.extui v199
  let v201 : BitVec 32 := Scalar.subi v198 v200
  let c16_i32_115 : BitVec 32 := 16#32
  let c0_i32_118 : BitVec 32 := 0#32
  let v202 : BitVec 1 := Scalar.cmpi .sgt c16_i32_115 c0_i32_118
  let v203 : BitVec 32 := Scalar.extui v202
  let c0_i32_119 : BitVec 32 := 0#32
  let v204 : BitVec 1 := Scalar.cmpi .slt c16_i32_115 c0_i32_119
  let v205 : BitVec 32 := Scalar.extui v204
  let v206 : BitVec 32 := Scalar.subi v203 v205
  let v207 : BitVec 1 := Scalar.cmpi .ne v201 v206
  let v208 : BitVec 32 := Scalar.remsi v195 c16_i32_115
  let c0_i32_120 : BitVec 32 := 0#32
  let v209 : BitVec 1 := Scalar.cmpi .ne v208 c0_i32_120
  let v210 : BitVec 1 := Scalar.andi v207 v209
  let v196 : BitVec 32 := Scalar.divsi v195 c16_i32_115
  let c1_i32_121 : BitVec 32 := 1#32
  let v211 : BitVec 32 := Scalar.subi v196 c1_i32_121
  let v212 : BitVec 32 := Scalar.select v210 v211 v196
  let v304 : BitVec 1 := Scalar.cmpi .ne v301 v212
  let v305 : BitVec 32 := Scalar.extui v304
  let c0_i32_179 : BitVec 32 := 0#32
  let v306 : BitVec 1 := Scalar.cmpi .ne v305 c0_i32_179
  v306

def k0_off33 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_169 : BitVec 32 := 13#32
  let v283 : BitVec 32 := Scalar.muli v1 c13_i32_169
  let c3_i32_170 : BitVec 32 := 3#32
  let v284 : BitVec 32 := Scalar.addi v283 c3_i32_170
  let c0_i32_172 : BitVec 32 := 0#32
  let v286 : BitVec 1 := Scalar.cmpi .sgt v284 c0_i32_172
  let v287 : BitVec 32 := Scalar.extui v286
  let c0_i32_173 : BitVec 32 := 0#32
  let v288 : BitVec 1 := Scalar.cmpi .slt v284 c0_i32_173
  let v289 : BitVec 32 := Scalar.extui v288
  let v290 : BitVec 32 := Scalar.subi v287 v289
  let c16_i32_171 : BitVec 32 := 16#32
  let c0_i32_174 : BitVec 32 := 0#32
  let v291 : BitVec 1 := Scalar.cmpi .sgt c16_i32_171 c0_i32_174
  let v292 : BitVec 32 := Scalar.extui v291
  let c0_i32_175 : BitVec 32 := 0#32
  let v293 : BitVec 1 := Scalar.cmpi .slt c16_i32_171 c0_i32_175
  let v294 : BitVec 32 := Scalar.extui v293
  let v295 : BitVec 32 := Scalar.subi v292 v294
  let v296 : BitVec 1 := Scalar.cmpi .ne v290 v295
  let v297 : BitVec 32 := Scalar.remsi v284 c16_i32_171
  let c0_i32_176 : BitVec 32 := 0#32
  let v298 : BitVec 1 := Scalar.cmpi .ne v297 c0_i32_176
  let v299 : BitVec 1 := Scalar.andi v296 v298
  let v285 : BitVec 32 := Scalar.divsi v284 c16_i32_171
  let c1_i32_177 : BitVec 32 := 1#32
  let v300 : BitVec 32 := Scalar.subi v285 c1_i32_177
  let v301 : BitVec 32 := Scalar.select v299 v300 v285
  let c0_i32_722_r3 : BitVec 32 := 0#32
  ![v301.toNat, 0]
@[reducible] def k0_t13_loop : Scf.Loop 32 :=
  let c0_i32_184 : BitVec 32 := 0#32
  let c256_i32_185 : BitVec 32 := 256#32
  let v315 : BitVec 32 := Scalar.addi c0_i32_184 c256_i32_185
  let c1_i32_186 : BitVec 32 := 1#32
  ⟨c0_i32_184, v315, c1_i32_186⟩
def k0_off34 (k0_t13 : Fin k0_t13_loop.trips) : Fin 1 → Nat :=
  let c0_i32_726 : BitVec 32 := 0#32
  let c0_i32_723 : BitVec 32 := 0#32
  let c0_i32_184 : BitVec 32 := 0#32
  let c1_i32_186 : BitVec 32 := 1#32
  let arg12 : BitVec 32 := Scf.iv c0_i32_184 c1_i32_186 k0_t13
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk13 (v1162 : IVec S16 32) : Prop :=
  (∀ a x, ((![v1162] : Fin 1 → IVec S16 32) a x).toNat < S100000.size a)
theorem k0_idx13_inb : ∀ (v1162 : IVec S16 32) (k0_hw13 : k0_chk13 v1162), ∀ a x, ((![v1162] : Fin 1 → IVec S16 32) a x).toNat < S100000.size a := fun v1162 k0_hw13 => k0_hw13
def k0_off35 (k0_t13 : Fin k0_t13_loop.trips) : Fin 1 → Nat :=
  let c0_i32_723 : BitVec 32 := 0#32
  let c0_i32_184 : BitVec 32 := 0#32
  let c1_i32_186 : BitVec 32 := 1#32
  let arg12 : BitVec 32 := Scf.iv c0_i32_184 c1_i32_186 k0_t13
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t14_loop : Scf.Loop 32 :=
  let c0_i32_192 : BitVec 32 := 0#32
  let c256_i32_193 : BitVec 32 := 256#32
  let v324 : BitVec 32 := Scalar.addi c0_i32_192 c256_i32_193
  let c1_i32_194 : BitVec 32 := 1#32
  ⟨c0_i32_192, v324, c1_i32_194⟩
def k0_off36 (k0_t14 : Fin k0_t14_loop.trips) : Fin 1 → Nat :=
  let c4096_i32_726 : BitVec 32 := 4096#32
  let c0_i32_723 : BitVec 32 := 0#32
  let c0_i32_192 : BitVec 32 := 0#32
  let c1_i32_194 : BitVec 32 := 1#32
  let arg12 : BitVec 32 := Scf.iv c0_i32_192 c1_i32_194 k0_t14
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk14 (v1162 : IVec S16 32) : Prop :=
  (∀ a x, ((![v1162] : Fin 1 → IVec S16 32) a x).toNat < S100000.size a)
theorem k0_idx14_inb : ∀ (v1162 : IVec S16 32) (k0_hw14 : k0_chk14 v1162), ∀ a x, ((![v1162] : Fin 1 → IVec S16 32) a x).toNat < S100000.size a := fun v1162 k0_hw14 => k0_hw14
def k0_off37 (k0_t14 : Fin k0_t14_loop.trips) : Fin 1 → Nat :=
  let c0_i32_723 : BitVec 32 := 0#32
  let c0_i32_192 : BitVec 32 := 0#32
  let c1_i32_194 : BitVec 32 := 1#32
  let arg12 : BitVec 32 := Scf.iv c0_i32_192 c1_i32_194 k0_t14
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t15_loop : Scf.Loop 32 :=
  let c0_i32_200 : BitVec 32 := 0#32
  let c256_i32_201 : BitVec 32 := 256#32
  let v333 : BitVec 32 := Scalar.addi c0_i32_200 c256_i32_201
  let c1_i32_202 : BitVec 32 := 1#32
  ⟨c0_i32_200, v333, c1_i32_202⟩
def k0_off38 (k0_t15 : Fin k0_t15_loop.trips) : Fin 1 → Nat :=
  let c8192_i32_726 : BitVec 32 := 8192#32
  let c0_i32_723 : BitVec 32 := 0#32
  let c0_i32_200 : BitVec 32 := 0#32
  let c1_i32_202 : BitVec 32 := 1#32
  let arg12 : BitVec 32 := Scf.iv c0_i32_200 c1_i32_202 k0_t15
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk15 (v1162 : IVec S16 32) : Prop :=
  (∀ a x, ((![v1162] : Fin 1 → IVec S16 32) a x).toNat < S100000.size a)
theorem k0_idx15_inb : ∀ (v1162 : IVec S16 32) (k0_hw15 : k0_chk15 v1162), ∀ a x, ((![v1162] : Fin 1 → IVec S16 32) a x).toNat < S100000.size a := fun v1162 k0_hw15 => k0_hw15
def k0_off39 (k0_t15 : Fin k0_t15_loop.trips) : Fin 1 → Nat :=
  let c0_i32_723 : BitVec 32 := 0#32
  let c0_i32_200 : BitVec 32 := 0#32
  let c1_i32_202 : BitVec 32 := 1#32
  let arg12 : BitVec 32 := Scf.iv c0_i32_200 c1_i32_202 k0_t15
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t16_loop : Scf.Loop 32 :=
  let c0_i32_208 : BitVec 32 := 0#32
  let c256_i32_209 : BitVec 32 := 256#32
  let v342 : BitVec 32 := Scalar.addi c0_i32_208 c256_i32_209
  let c1_i32_210 : BitVec 32 := 1#32
  ⟨c0_i32_208, v342, c1_i32_210⟩
def k0_off40 (k0_t16 : Fin k0_t16_loop.trips) : Fin 1 → Nat :=
  let c12288_i32_726 : BitVec 32 := 12288#32
  let c0_i32_723 : BitVec 32 := 0#32
  let c0_i32_208 : BitVec 32 := 0#32
  let c1_i32_210 : BitVec 32 := 1#32
  let arg12 : BitVec 32 := Scf.iv c0_i32_208 c1_i32_210 k0_t16
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk16 (v1162 : IVec S16 32) : Prop :=
  (∀ a x, ((![v1162] : Fin 1 → IVec S16 32) a x).toNat < S100000.size a)
theorem k0_idx16_inb : ∀ (v1162 : IVec S16 32) (k0_hw16 : k0_chk16 v1162), ∀ a x, ((![v1162] : Fin 1 → IVec S16 32) a x).toNat < S100000.size a := fun v1162 k0_hw16 => k0_hw16
def k0_off41 (k0_t16 : Fin k0_t16_loop.trips) : Fin 1 → Nat :=
  let c0_i32_723 : BitVec 32 := 0#32
  let c0_i32_208 : BitVec 32 := 0#32
  let c1_i32_210 : BitVec 32 := 1#32
  let arg12 : BitVec 32 := Scf.iv c0_i32_208 c1_i32_210 k0_t16
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_cond4 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_225 : BitVec 32 := 13#32
  let v372 : BitVec 32 := Scalar.muli v1 c13_i32_225
  let c4_i32_226 : BitVec 32 := 4#32
  let v373 : BitVec 32 := Scalar.addi v372 c4_i32_226
  let c0_i32_228 : BitVec 32 := 0#32
  let v375 : BitVec 1 := Scalar.cmpi .sgt v373 c0_i32_228
  let v376 : BitVec 32 := Scalar.extui v375
  let c0_i32_229 : BitVec 32 := 0#32
  let v377 : BitVec 1 := Scalar.cmpi .slt v373 c0_i32_229
  let v378 : BitVec 32 := Scalar.extui v377
  let v379 : BitVec 32 := Scalar.subi v376 v378
  let c16_i32_227 : BitVec 32 := 16#32
  let c0_i32_230 : BitVec 32 := 0#32
  let v380 : BitVec 1 := Scalar.cmpi .sgt c16_i32_227 c0_i32_230
  let v381 : BitVec 32 := Scalar.extui v380
  let c0_i32_231 : BitVec 32 := 0#32
  let v382 : BitVec 1 := Scalar.cmpi .slt c16_i32_227 c0_i32_231
  let v383 : BitVec 32 := Scalar.extui v382
  let v384 : BitVec 32 := Scalar.subi v381 v383
  let v385 : BitVec 1 := Scalar.cmpi .ne v379 v384
  let v386 : BitVec 32 := Scalar.remsi v373 c16_i32_227
  let c0_i32_232 : BitVec 32 := 0#32
  let v387 : BitVec 1 := Scalar.cmpi .ne v386 c0_i32_232
  let v388 : BitVec 1 := Scalar.andi v385 v387
  let v374 : BitVec 32 := Scalar.divsi v373 c16_i32_227
  let c1_i32_233 : BitVec 32 := 1#32
  let v389 : BitVec 32 := Scalar.subi v374 c1_i32_233
  let v390 : BitVec 32 := Scalar.select v388 v389 v374
  let c13_i32_169 : BitVec 32 := 13#32
  let v283 : BitVec 32 := Scalar.muli v1 c13_i32_169
  let c3_i32_170 : BitVec 32 := 3#32
  let v284 : BitVec 32 := Scalar.addi v283 c3_i32_170
  let c0_i32_172 : BitVec 32 := 0#32
  let v286 : BitVec 1 := Scalar.cmpi .sgt v284 c0_i32_172
  let v287 : BitVec 32 := Scalar.extui v286
  let c0_i32_173 : BitVec 32 := 0#32
  let v288 : BitVec 1 := Scalar.cmpi .slt v284 c0_i32_173
  let v289 : BitVec 32 := Scalar.extui v288
  let v290 : BitVec 32 := Scalar.subi v287 v289
  let c16_i32_171 : BitVec 32 := 16#32
  let c0_i32_174 : BitVec 32 := 0#32
  let v291 : BitVec 1 := Scalar.cmpi .sgt c16_i32_171 c0_i32_174
  let v292 : BitVec 32 := Scalar.extui v291
  let c0_i32_175 : BitVec 32 := 0#32
  let v293 : BitVec 1 := Scalar.cmpi .slt c16_i32_171 c0_i32_175
  let v294 : BitVec 32 := Scalar.extui v293
  let v295 : BitVec 32 := Scalar.subi v292 v294
  let v296 : BitVec 1 := Scalar.cmpi .ne v290 v295
  let v297 : BitVec 32 := Scalar.remsi v284 c16_i32_171
  let c0_i32_176 : BitVec 32 := 0#32
  let v298 : BitVec 1 := Scalar.cmpi .ne v297 c0_i32_176
  let v299 : BitVec 1 := Scalar.andi v296 v298
  let v285 : BitVec 32 := Scalar.divsi v284 c16_i32_171
  let c1_i32_177 : BitVec 32 := 1#32
  let v300 : BitVec 32 := Scalar.subi v285 c1_i32_177
  let v301 : BitVec 32 := Scalar.select v299 v300 v285
  let v393 : BitVec 1 := Scalar.cmpi .ne v390 v301
  let v394 : BitVec 32 := Scalar.extui v393
  let c0_i32_235 : BitVec 32 := 0#32
  let v395 : BitVec 1 := Scalar.cmpi .ne v394 c0_i32_235
  v395

def k0_off42 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_225 : BitVec 32 := 13#32
  let v372 : BitVec 32 := Scalar.muli v1 c13_i32_225
  let c4_i32_226 : BitVec 32 := 4#32
  let v373 : BitVec 32 := Scalar.addi v372 c4_i32_226
  let c0_i32_228 : BitVec 32 := 0#32
  let v375 : BitVec 1 := Scalar.cmpi .sgt v373 c0_i32_228
  let v376 : BitVec 32 := Scalar.extui v375
  let c0_i32_229 : BitVec 32 := 0#32
  let v377 : BitVec 1 := Scalar.cmpi .slt v373 c0_i32_229
  let v378 : BitVec 32 := Scalar.extui v377
  let v379 : BitVec 32 := Scalar.subi v376 v378
  let c16_i32_227 : BitVec 32 := 16#32
  let c0_i32_230 : BitVec 32 := 0#32
  let v380 : BitVec 1 := Scalar.cmpi .sgt c16_i32_227 c0_i32_230
  let v381 : BitVec 32 := Scalar.extui v380
  let c0_i32_231 : BitVec 32 := 0#32
  let v382 : BitVec 1 := Scalar.cmpi .slt c16_i32_227 c0_i32_231
  let v383 : BitVec 32 := Scalar.extui v382
  let v384 : BitVec 32 := Scalar.subi v381 v383
  let v385 : BitVec 1 := Scalar.cmpi .ne v379 v384
  let v386 : BitVec 32 := Scalar.remsi v373 c16_i32_227
  let c0_i32_232 : BitVec 32 := 0#32
  let v387 : BitVec 1 := Scalar.cmpi .ne v386 c0_i32_232
  let v388 : BitVec 1 := Scalar.andi v385 v387
  let v374 : BitVec 32 := Scalar.divsi v373 c16_i32_227
  let c1_i32_233 : BitVec 32 := 1#32
  let v389 : BitVec 32 := Scalar.subi v374 c1_i32_233
  let v390 : BitVec 32 := Scalar.select v388 v389 v374
  let c0_i32_722_r4 : BitVec 32 := 0#32
  ![v390.toNat, 0]
@[reducible] def k0_t17_loop : Scf.Loop 32 :=
  let c0_i32_240 : BitVec 32 := 0#32
  let c256_i32_241 : BitVec 32 := 256#32
  let v404 : BitVec 32 := Scalar.addi c0_i32_240 c256_i32_241
  let c1_i32_242 : BitVec 32 := 1#32
  ⟨c0_i32_240, v404, c1_i32_242⟩
def k0_off43 (k0_t17 : Fin k0_t17_loop.trips) : Fin 1 → Nat :=
  let c0_i32_726 : BitVec 32 := 0#32
  let c0_i32_723 : BitVec 32 := 0#32
  let c0_i32_240 : BitVec 32 := 0#32
  let c1_i32_242 : BitVec 32 := 1#32
  let arg12 : BitVec 32 := Scf.iv c0_i32_240 c1_i32_242 k0_t17
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk17 (v1162 : IVec S16 32) : Prop :=
  (∀ a x, ((![v1162] : Fin 1 → IVec S16 32) a x).toNat < S100000.size a)
theorem k0_idx17_inb : ∀ (v1162 : IVec S16 32) (k0_hw17 : k0_chk17 v1162), ∀ a x, ((![v1162] : Fin 1 → IVec S16 32) a x).toNat < S100000.size a := fun v1162 k0_hw17 => k0_hw17
def k0_off44 (k0_t17 : Fin k0_t17_loop.trips) : Fin 1 → Nat :=
  let c0_i32_723 : BitVec 32 := 0#32
  let c0_i32_240 : BitVec 32 := 0#32
  let c1_i32_242 : BitVec 32 := 1#32
  let arg12 : BitVec 32 := Scf.iv c0_i32_240 c1_i32_242 k0_t17
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t18_loop : Scf.Loop 32 :=
  let c0_i32_248 : BitVec 32 := 0#32
  let c256_i32_249 : BitVec 32 := 256#32
  let v413 : BitVec 32 := Scalar.addi c0_i32_248 c256_i32_249
  let c1_i32_250 : BitVec 32 := 1#32
  ⟨c0_i32_248, v413, c1_i32_250⟩
def k0_off45 (k0_t18 : Fin k0_t18_loop.trips) : Fin 1 → Nat :=
  let c4096_i32_726 : BitVec 32 := 4096#32
  let c0_i32_723 : BitVec 32 := 0#32
  let c0_i32_248 : BitVec 32 := 0#32
  let c1_i32_250 : BitVec 32 := 1#32
  let arg12 : BitVec 32 := Scf.iv c0_i32_248 c1_i32_250 k0_t18
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk18 (v1162 : IVec S16 32) : Prop :=
  (∀ a x, ((![v1162] : Fin 1 → IVec S16 32) a x).toNat < S100000.size a)
theorem k0_idx18_inb : ∀ (v1162 : IVec S16 32) (k0_hw18 : k0_chk18 v1162), ∀ a x, ((![v1162] : Fin 1 → IVec S16 32) a x).toNat < S100000.size a := fun v1162 k0_hw18 => k0_hw18
def k0_off46 (k0_t18 : Fin k0_t18_loop.trips) : Fin 1 → Nat :=
  let c0_i32_723 : BitVec 32 := 0#32
  let c0_i32_248 : BitVec 32 := 0#32
  let c1_i32_250 : BitVec 32 := 1#32
  let arg12 : BitVec 32 := Scf.iv c0_i32_248 c1_i32_250 k0_t18
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t19_loop : Scf.Loop 32 :=
  let c0_i32_256 : BitVec 32 := 0#32
  let c256_i32_257 : BitVec 32 := 256#32
  let v422 : BitVec 32 := Scalar.addi c0_i32_256 c256_i32_257
  let c1_i32_258 : BitVec 32 := 1#32
  ⟨c0_i32_256, v422, c1_i32_258⟩
def k0_off47 (k0_t19 : Fin k0_t19_loop.trips) : Fin 1 → Nat :=
  let c8192_i32_726 : BitVec 32 := 8192#32
  let c0_i32_723 : BitVec 32 := 0#32
  let c0_i32_256 : BitVec 32 := 0#32
  let c1_i32_258 : BitVec 32 := 1#32
  let arg12 : BitVec 32 := Scf.iv c0_i32_256 c1_i32_258 k0_t19
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk19 (v1162 : IVec S16 32) : Prop :=
  (∀ a x, ((![v1162] : Fin 1 → IVec S16 32) a x).toNat < S100000.size a)
theorem k0_idx19_inb : ∀ (v1162 : IVec S16 32) (k0_hw19 : k0_chk19 v1162), ∀ a x, ((![v1162] : Fin 1 → IVec S16 32) a x).toNat < S100000.size a := fun v1162 k0_hw19 => k0_hw19
def k0_off48 (k0_t19 : Fin k0_t19_loop.trips) : Fin 1 → Nat :=
  let c0_i32_723 : BitVec 32 := 0#32
  let c0_i32_256 : BitVec 32 := 0#32
  let c1_i32_258 : BitVec 32 := 1#32
  let arg12 : BitVec 32 := Scf.iv c0_i32_256 c1_i32_258 k0_t19
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t20_loop : Scf.Loop 32 :=
  let c0_i32_264 : BitVec 32 := 0#32
  let c256_i32_265 : BitVec 32 := 256#32
  let v431 : BitVec 32 := Scalar.addi c0_i32_264 c256_i32_265
  let c1_i32_266 : BitVec 32 := 1#32
  ⟨c0_i32_264, v431, c1_i32_266⟩
def k0_off49 (k0_t20 : Fin k0_t20_loop.trips) : Fin 1 → Nat :=
  let c12288_i32_726 : BitVec 32 := 12288#32
  let c0_i32_723 : BitVec 32 := 0#32
  let c0_i32_264 : BitVec 32 := 0#32
  let c1_i32_266 : BitVec 32 := 1#32
  let arg12 : BitVec 32 := Scf.iv c0_i32_264 c1_i32_266 k0_t20
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk20 (v1162 : IVec S16 32) : Prop :=
  (∀ a x, ((![v1162] : Fin 1 → IVec S16 32) a x).toNat < S100000.size a)
theorem k0_idx20_inb : ∀ (v1162 : IVec S16 32) (k0_hw20 : k0_chk20 v1162), ∀ a x, ((![v1162] : Fin 1 → IVec S16 32) a x).toNat < S100000.size a := fun v1162 k0_hw20 => k0_hw20
def k0_off50 (k0_t20 : Fin k0_t20_loop.trips) : Fin 1 → Nat :=
  let c0_i32_723 : BitVec 32 := 0#32
  let c0_i32_264 : BitVec 32 := 0#32
  let c1_i32_266 : BitVec 32 := 1#32
  let arg12 : BitVec 32 := Scf.iv c0_i32_264 c1_i32_266 k0_t20
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_cond5 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_281 : BitVec 32 := 13#32
  let v461 : BitVec 32 := Scalar.muli v1 c13_i32_281
  let c5_i32_282 : BitVec 32 := 5#32
  let v462 : BitVec 32 := Scalar.addi v461 c5_i32_282
  let c0_i32_284 : BitVec 32 := 0#32
  let v464 : BitVec 1 := Scalar.cmpi .sgt v462 c0_i32_284
  let v465 : BitVec 32 := Scalar.extui v464
  let c0_i32_285 : BitVec 32 := 0#32
  let v466 : BitVec 1 := Scalar.cmpi .slt v462 c0_i32_285
  let v467 : BitVec 32 := Scalar.extui v466
  let v468 : BitVec 32 := Scalar.subi v465 v467
  let c16_i32_283 : BitVec 32 := 16#32
  let c0_i32_286 : BitVec 32 := 0#32
  let v469 : BitVec 1 := Scalar.cmpi .sgt c16_i32_283 c0_i32_286
  let v470 : BitVec 32 := Scalar.extui v469
  let c0_i32_287 : BitVec 32 := 0#32
  let v471 : BitVec 1 := Scalar.cmpi .slt c16_i32_283 c0_i32_287
  let v472 : BitVec 32 := Scalar.extui v471
  let v473 : BitVec 32 := Scalar.subi v470 v472
  let v474 : BitVec 1 := Scalar.cmpi .ne v468 v473
  let v475 : BitVec 32 := Scalar.remsi v462 c16_i32_283
  let c0_i32_288 : BitVec 32 := 0#32
  let v476 : BitVec 1 := Scalar.cmpi .ne v475 c0_i32_288
  let v477 : BitVec 1 := Scalar.andi v474 v476
  let v463 : BitVec 32 := Scalar.divsi v462 c16_i32_283
  let c1_i32_289 : BitVec 32 := 1#32
  let v478 : BitVec 32 := Scalar.subi v463 c1_i32_289
  let v479 : BitVec 32 := Scalar.select v477 v478 v463
  let c13_i32_225 : BitVec 32 := 13#32
  let v372 : BitVec 32 := Scalar.muli v1 c13_i32_225
  let c4_i32_226 : BitVec 32 := 4#32
  let v373 : BitVec 32 := Scalar.addi v372 c4_i32_226
  let c0_i32_228 : BitVec 32 := 0#32
  let v375 : BitVec 1 := Scalar.cmpi .sgt v373 c0_i32_228
  let v376 : BitVec 32 := Scalar.extui v375
  let c0_i32_229 : BitVec 32 := 0#32
  let v377 : BitVec 1 := Scalar.cmpi .slt v373 c0_i32_229
  let v378 : BitVec 32 := Scalar.extui v377
  let v379 : BitVec 32 := Scalar.subi v376 v378
  let c16_i32_227 : BitVec 32 := 16#32
  let c0_i32_230 : BitVec 32 := 0#32
  let v380 : BitVec 1 := Scalar.cmpi .sgt c16_i32_227 c0_i32_230
  let v381 : BitVec 32 := Scalar.extui v380
  let c0_i32_231 : BitVec 32 := 0#32
  let v382 : BitVec 1 := Scalar.cmpi .slt c16_i32_227 c0_i32_231
  let v383 : BitVec 32 := Scalar.extui v382
  let v384 : BitVec 32 := Scalar.subi v381 v383
  let v385 : BitVec 1 := Scalar.cmpi .ne v379 v384
  let v386 : BitVec 32 := Scalar.remsi v373 c16_i32_227
  let c0_i32_232 : BitVec 32 := 0#32
  let v387 : BitVec 1 := Scalar.cmpi .ne v386 c0_i32_232
  let v388 : BitVec 1 := Scalar.andi v385 v387
  let v374 : BitVec 32 := Scalar.divsi v373 c16_i32_227
  let c1_i32_233 : BitVec 32 := 1#32
  let v389 : BitVec 32 := Scalar.subi v374 c1_i32_233
  let v390 : BitVec 32 := Scalar.select v388 v389 v374
  let v482 : BitVec 1 := Scalar.cmpi .ne v479 v390
  let v483 : BitVec 32 := Scalar.extui v482
  let c0_i32_291 : BitVec 32 := 0#32
  let v484 : BitVec 1 := Scalar.cmpi .ne v483 c0_i32_291
  v484

def k0_off51 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_281 : BitVec 32 := 13#32
  let v461 : BitVec 32 := Scalar.muli v1 c13_i32_281
  let c5_i32_282 : BitVec 32 := 5#32
  let v462 : BitVec 32 := Scalar.addi v461 c5_i32_282
  let c0_i32_284 : BitVec 32 := 0#32
  let v464 : BitVec 1 := Scalar.cmpi .sgt v462 c0_i32_284
  let v465 : BitVec 32 := Scalar.extui v464
  let c0_i32_285 : BitVec 32 := 0#32
  let v466 : BitVec 1 := Scalar.cmpi .slt v462 c0_i32_285
  let v467 : BitVec 32 := Scalar.extui v466
  let v468 : BitVec 32 := Scalar.subi v465 v467
  let c16_i32_283 : BitVec 32 := 16#32
  let c0_i32_286 : BitVec 32 := 0#32
  let v469 : BitVec 1 := Scalar.cmpi .sgt c16_i32_283 c0_i32_286
  let v470 : BitVec 32 := Scalar.extui v469
  let c0_i32_287 : BitVec 32 := 0#32
  let v471 : BitVec 1 := Scalar.cmpi .slt c16_i32_283 c0_i32_287
  let v472 : BitVec 32 := Scalar.extui v471
  let v473 : BitVec 32 := Scalar.subi v470 v472
  let v474 : BitVec 1 := Scalar.cmpi .ne v468 v473
  let v475 : BitVec 32 := Scalar.remsi v462 c16_i32_283
  let c0_i32_288 : BitVec 32 := 0#32
  let v476 : BitVec 1 := Scalar.cmpi .ne v475 c0_i32_288
  let v477 : BitVec 1 := Scalar.andi v474 v476
  let v463 : BitVec 32 := Scalar.divsi v462 c16_i32_283
  let c1_i32_289 : BitVec 32 := 1#32
  let v478 : BitVec 32 := Scalar.subi v463 c1_i32_289
  let v479 : BitVec 32 := Scalar.select v477 v478 v463
  let c0_i32_722_r5 : BitVec 32 := 0#32
  ![v479.toNat, 0]
@[reducible] def k0_t21_loop : Scf.Loop 32 :=
  let c0_i32_296 : BitVec 32 := 0#32
  let c256_i32_297 : BitVec 32 := 256#32
  let v493 : BitVec 32 := Scalar.addi c0_i32_296 c256_i32_297
  let c1_i32_298 : BitVec 32 := 1#32
  ⟨c0_i32_296, v493, c1_i32_298⟩
def k0_off52 (k0_t21 : Fin k0_t21_loop.trips) : Fin 1 → Nat :=
  let c0_i32_726 : BitVec 32 := 0#32
  let c0_i32_723 : BitVec 32 := 0#32
  let c0_i32_296 : BitVec 32 := 0#32
  let c1_i32_298 : BitVec 32 := 1#32
  let arg12 : BitVec 32 := Scf.iv c0_i32_296 c1_i32_298 k0_t21
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk21 (v1162 : IVec S16 32) : Prop :=
  (∀ a x, ((![v1162] : Fin 1 → IVec S16 32) a x).toNat < S100000.size a)
theorem k0_idx21_inb : ∀ (v1162 : IVec S16 32) (k0_hw21 : k0_chk21 v1162), ∀ a x, ((![v1162] : Fin 1 → IVec S16 32) a x).toNat < S100000.size a := fun v1162 k0_hw21 => k0_hw21
def k0_off53 (k0_t21 : Fin k0_t21_loop.trips) : Fin 1 → Nat :=
  let c0_i32_723 : BitVec 32 := 0#32
  let c0_i32_296 : BitVec 32 := 0#32
  let c1_i32_298 : BitVec 32 := 1#32
  let arg12 : BitVec 32 := Scf.iv c0_i32_296 c1_i32_298 k0_t21
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t22_loop : Scf.Loop 32 :=
  let c0_i32_304 : BitVec 32 := 0#32
  let c256_i32_305 : BitVec 32 := 256#32
  let v502 : BitVec 32 := Scalar.addi c0_i32_304 c256_i32_305
  let c1_i32_306 : BitVec 32 := 1#32
  ⟨c0_i32_304, v502, c1_i32_306⟩
def k0_off54 (k0_t22 : Fin k0_t22_loop.trips) : Fin 1 → Nat :=
  let c4096_i32_726 : BitVec 32 := 4096#32
  let c0_i32_723 : BitVec 32 := 0#32
  let c0_i32_304 : BitVec 32 := 0#32
  let c1_i32_306 : BitVec 32 := 1#32
  let arg12 : BitVec 32 := Scf.iv c0_i32_304 c1_i32_306 k0_t22
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk22 (v1162 : IVec S16 32) : Prop :=
  (∀ a x, ((![v1162] : Fin 1 → IVec S16 32) a x).toNat < S100000.size a)
theorem k0_idx22_inb : ∀ (v1162 : IVec S16 32) (k0_hw22 : k0_chk22 v1162), ∀ a x, ((![v1162] : Fin 1 → IVec S16 32) a x).toNat < S100000.size a := fun v1162 k0_hw22 => k0_hw22
def k0_off55 (k0_t22 : Fin k0_t22_loop.trips) : Fin 1 → Nat :=
  let c0_i32_723 : BitVec 32 := 0#32
  let c0_i32_304 : BitVec 32 := 0#32
  let c1_i32_306 : BitVec 32 := 1#32
  let arg12 : BitVec 32 := Scf.iv c0_i32_304 c1_i32_306 k0_t22
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t23_loop : Scf.Loop 32 :=
  let c0_i32_312 : BitVec 32 := 0#32
  let c256_i32_313 : BitVec 32 := 256#32
  let v511 : BitVec 32 := Scalar.addi c0_i32_312 c256_i32_313
  let c1_i32_314 : BitVec 32 := 1#32
  ⟨c0_i32_312, v511, c1_i32_314⟩
def k0_off56 (k0_t23 : Fin k0_t23_loop.trips) : Fin 1 → Nat :=
  let c8192_i32_726 : BitVec 32 := 8192#32
  let c0_i32_723 : BitVec 32 := 0#32
  let c0_i32_312 : BitVec 32 := 0#32
  let c1_i32_314 : BitVec 32 := 1#32
  let arg12 : BitVec 32 := Scf.iv c0_i32_312 c1_i32_314 k0_t23
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk23 (v1162 : IVec S16 32) : Prop :=
  (∀ a x, ((![v1162] : Fin 1 → IVec S16 32) a x).toNat < S100000.size a)
theorem k0_idx23_inb : ∀ (v1162 : IVec S16 32) (k0_hw23 : k0_chk23 v1162), ∀ a x, ((![v1162] : Fin 1 → IVec S16 32) a x).toNat < S100000.size a := fun v1162 k0_hw23 => k0_hw23
def k0_off57 (k0_t23 : Fin k0_t23_loop.trips) : Fin 1 → Nat :=
  let c0_i32_723 : BitVec 32 := 0#32
  let c0_i32_312 : BitVec 32 := 0#32
  let c1_i32_314 : BitVec 32 := 1#32
  let arg12 : BitVec 32 := Scf.iv c0_i32_312 c1_i32_314 k0_t23
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t24_loop : Scf.Loop 32 :=
  let c0_i32_320 : BitVec 32 := 0#32
  let c256_i32_321 : BitVec 32 := 256#32
  let v520 : BitVec 32 := Scalar.addi c0_i32_320 c256_i32_321
  let c1_i32_322 : BitVec 32 := 1#32
  ⟨c0_i32_320, v520, c1_i32_322⟩
def k0_off58 (k0_t24 : Fin k0_t24_loop.trips) : Fin 1 → Nat :=
  let c12288_i32_726 : BitVec 32 := 12288#32
  let c0_i32_723 : BitVec 32 := 0#32
  let c0_i32_320 : BitVec 32 := 0#32
  let c1_i32_322 : BitVec 32 := 1#32
  let arg12 : BitVec 32 := Scf.iv c0_i32_320 c1_i32_322 k0_t24
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk24 (v1162 : IVec S16 32) : Prop :=
  (∀ a x, ((![v1162] : Fin 1 → IVec S16 32) a x).toNat < S100000.size a)
theorem k0_idx24_inb : ∀ (v1162 : IVec S16 32) (k0_hw24 : k0_chk24 v1162), ∀ a x, ((![v1162] : Fin 1 → IVec S16 32) a x).toNat < S100000.size a := fun v1162 k0_hw24 => k0_hw24
def k0_off59 (k0_t24 : Fin k0_t24_loop.trips) : Fin 1 → Nat :=
  let c0_i32_723 : BitVec 32 := 0#32
  let c0_i32_320 : BitVec 32 := 0#32
  let c1_i32_322 : BitVec 32 := 1#32
  let arg12 : BitVec 32 := Scf.iv c0_i32_320 c1_i32_322 k0_t24
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_cond6 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_337 : BitVec 32 := 13#32
  let v550 : BitVec 32 := Scalar.muli v1 c13_i32_337
  let c6_i32_338 : BitVec 32 := 6#32
  let v551 : BitVec 32 := Scalar.addi v550 c6_i32_338
  let c0_i32_340 : BitVec 32 := 0#32
  let v553 : BitVec 1 := Scalar.cmpi .sgt v551 c0_i32_340
  let v554 : BitVec 32 := Scalar.extui v553
  let c0_i32_341 : BitVec 32 := 0#32
  let v555 : BitVec 1 := Scalar.cmpi .slt v551 c0_i32_341
  let v556 : BitVec 32 := Scalar.extui v555
  let v557 : BitVec 32 := Scalar.subi v554 v556
  let c16_i32_339 : BitVec 32 := 16#32
  let c0_i32_342 : BitVec 32 := 0#32
  let v558 : BitVec 1 := Scalar.cmpi .sgt c16_i32_339 c0_i32_342
  let v559 : BitVec 32 := Scalar.extui v558
  let c0_i32_343 : BitVec 32 := 0#32
  let v560 : BitVec 1 := Scalar.cmpi .slt c16_i32_339 c0_i32_343
  let v561 : BitVec 32 := Scalar.extui v560
  let v562 : BitVec 32 := Scalar.subi v559 v561
  let v563 : BitVec 1 := Scalar.cmpi .ne v557 v562
  let v564 : BitVec 32 := Scalar.remsi v551 c16_i32_339
  let c0_i32_344 : BitVec 32 := 0#32
  let v565 : BitVec 1 := Scalar.cmpi .ne v564 c0_i32_344
  let v566 : BitVec 1 := Scalar.andi v563 v565
  let v552 : BitVec 32 := Scalar.divsi v551 c16_i32_339
  let c1_i32_345 : BitVec 32 := 1#32
  let v567 : BitVec 32 := Scalar.subi v552 c1_i32_345
  let v568 : BitVec 32 := Scalar.select v566 v567 v552
  let c13_i32_281 : BitVec 32 := 13#32
  let v461 : BitVec 32 := Scalar.muli v1 c13_i32_281
  let c5_i32_282 : BitVec 32 := 5#32
  let v462 : BitVec 32 := Scalar.addi v461 c5_i32_282
  let c0_i32_284 : BitVec 32 := 0#32
  let v464 : BitVec 1 := Scalar.cmpi .sgt v462 c0_i32_284
  let v465 : BitVec 32 := Scalar.extui v464
  let c0_i32_285 : BitVec 32 := 0#32
  let v466 : BitVec 1 := Scalar.cmpi .slt v462 c0_i32_285
  let v467 : BitVec 32 := Scalar.extui v466
  let v468 : BitVec 32 := Scalar.subi v465 v467
  let c16_i32_283 : BitVec 32 := 16#32
  let c0_i32_286 : BitVec 32 := 0#32
  let v469 : BitVec 1 := Scalar.cmpi .sgt c16_i32_283 c0_i32_286
  let v470 : BitVec 32 := Scalar.extui v469
  let c0_i32_287 : BitVec 32 := 0#32
  let v471 : BitVec 1 := Scalar.cmpi .slt c16_i32_283 c0_i32_287
  let v472 : BitVec 32 := Scalar.extui v471
  let v473 : BitVec 32 := Scalar.subi v470 v472
  let v474 : BitVec 1 := Scalar.cmpi .ne v468 v473
  let v475 : BitVec 32 := Scalar.remsi v462 c16_i32_283
  let c0_i32_288 : BitVec 32 := 0#32
  let v476 : BitVec 1 := Scalar.cmpi .ne v475 c0_i32_288
  let v477 : BitVec 1 := Scalar.andi v474 v476
  let v463 : BitVec 32 := Scalar.divsi v462 c16_i32_283
  let c1_i32_289 : BitVec 32 := 1#32
  let v478 : BitVec 32 := Scalar.subi v463 c1_i32_289
  let v479 : BitVec 32 := Scalar.select v477 v478 v463
  let v571 : BitVec 1 := Scalar.cmpi .ne v568 v479
  let v572 : BitVec 32 := Scalar.extui v571
  let c0_i32_347 : BitVec 32 := 0#32
  let v573 : BitVec 1 := Scalar.cmpi .ne v572 c0_i32_347
  v573

def k0_off60 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_337 : BitVec 32 := 13#32
  let v550 : BitVec 32 := Scalar.muli v1 c13_i32_337
  let c6_i32_338 : BitVec 32 := 6#32
  let v551 : BitVec 32 := Scalar.addi v550 c6_i32_338
  let c0_i32_340 : BitVec 32 := 0#32
  let v553 : BitVec 1 := Scalar.cmpi .sgt v551 c0_i32_340
  let v554 : BitVec 32 := Scalar.extui v553
  let c0_i32_341 : BitVec 32 := 0#32
  let v555 : BitVec 1 := Scalar.cmpi .slt v551 c0_i32_341
  let v556 : BitVec 32 := Scalar.extui v555
  let v557 : BitVec 32 := Scalar.subi v554 v556
  let c16_i32_339 : BitVec 32 := 16#32
  let c0_i32_342 : BitVec 32 := 0#32
  let v558 : BitVec 1 := Scalar.cmpi .sgt c16_i32_339 c0_i32_342
  let v559 : BitVec 32 := Scalar.extui v558
  let c0_i32_343 : BitVec 32 := 0#32
  let v560 : BitVec 1 := Scalar.cmpi .slt c16_i32_339 c0_i32_343
  let v561 : BitVec 32 := Scalar.extui v560
  let v562 : BitVec 32 := Scalar.subi v559 v561
  let v563 : BitVec 1 := Scalar.cmpi .ne v557 v562
  let v564 : BitVec 32 := Scalar.remsi v551 c16_i32_339
  let c0_i32_344 : BitVec 32 := 0#32
  let v565 : BitVec 1 := Scalar.cmpi .ne v564 c0_i32_344
  let v566 : BitVec 1 := Scalar.andi v563 v565
  let v552 : BitVec 32 := Scalar.divsi v551 c16_i32_339
  let c1_i32_345 : BitVec 32 := 1#32
  let v567 : BitVec 32 := Scalar.subi v552 c1_i32_345
  let v568 : BitVec 32 := Scalar.select v566 v567 v552
  let c0_i32_722_r6 : BitVec 32 := 0#32
  ![v568.toNat, 0]
@[reducible] def k0_t25_loop : Scf.Loop 32 :=
  let c0_i32_352 : BitVec 32 := 0#32
  let c256_i32_353 : BitVec 32 := 256#32
  let v582 : BitVec 32 := Scalar.addi c0_i32_352 c256_i32_353
  let c1_i32_354 : BitVec 32 := 1#32
  ⟨c0_i32_352, v582, c1_i32_354⟩
def k0_off61 (k0_t25 : Fin k0_t25_loop.trips) : Fin 1 → Nat :=
  let c0_i32_726 : BitVec 32 := 0#32
  let c0_i32_723 : BitVec 32 := 0#32
  let c0_i32_352 : BitVec 32 := 0#32
  let c1_i32_354 : BitVec 32 := 1#32
  let arg12 : BitVec 32 := Scf.iv c0_i32_352 c1_i32_354 k0_t25
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk25 (v1162 : IVec S16 32) : Prop :=
  (∀ a x, ((![v1162] : Fin 1 → IVec S16 32) a x).toNat < S100000.size a)
theorem k0_idx25_inb : ∀ (v1162 : IVec S16 32) (k0_hw25 : k0_chk25 v1162), ∀ a x, ((![v1162] : Fin 1 → IVec S16 32) a x).toNat < S100000.size a := fun v1162 k0_hw25 => k0_hw25
def k0_off62 (k0_t25 : Fin k0_t25_loop.trips) : Fin 1 → Nat :=
  let c0_i32_723 : BitVec 32 := 0#32
  let c0_i32_352 : BitVec 32 := 0#32
  let c1_i32_354 : BitVec 32 := 1#32
  let arg12 : BitVec 32 := Scf.iv c0_i32_352 c1_i32_354 k0_t25
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t26_loop : Scf.Loop 32 :=
  let c0_i32_360 : BitVec 32 := 0#32
  let c256_i32_361 : BitVec 32 := 256#32
  let v591 : BitVec 32 := Scalar.addi c0_i32_360 c256_i32_361
  let c1_i32_362 : BitVec 32 := 1#32
  ⟨c0_i32_360, v591, c1_i32_362⟩
def k0_off63 (k0_t26 : Fin k0_t26_loop.trips) : Fin 1 → Nat :=
  let c4096_i32_726 : BitVec 32 := 4096#32
  let c0_i32_723 : BitVec 32 := 0#32
  let c0_i32_360 : BitVec 32 := 0#32
  let c1_i32_362 : BitVec 32 := 1#32
  let arg12 : BitVec 32 := Scf.iv c0_i32_360 c1_i32_362 k0_t26
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk26 (v1162 : IVec S16 32) : Prop :=
  (∀ a x, ((![v1162] : Fin 1 → IVec S16 32) a x).toNat < S100000.size a)
theorem k0_idx26_inb : ∀ (v1162 : IVec S16 32) (k0_hw26 : k0_chk26 v1162), ∀ a x, ((![v1162] : Fin 1 → IVec S16 32) a x).toNat < S100000.size a := fun v1162 k0_hw26 => k0_hw26
def k0_off64 (k0_t26 : Fin k0_t26_loop.trips) : Fin 1 → Nat :=
  let c0_i32_723 : BitVec 32 := 0#32
  let c0_i32_360 : BitVec 32 := 0#32
  let c1_i32_362 : BitVec 32 := 1#32
  let arg12 : BitVec 32 := Scf.iv c0_i32_360 c1_i32_362 k0_t26
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t27_loop : Scf.Loop 32 :=
  let c0_i32_368 : BitVec 32 := 0#32
  let c256_i32_369 : BitVec 32 := 256#32
  let v600 : BitVec 32 := Scalar.addi c0_i32_368 c256_i32_369
  let c1_i32_370 : BitVec 32 := 1#32
  ⟨c0_i32_368, v600, c1_i32_370⟩
def k0_off65 (k0_t27 : Fin k0_t27_loop.trips) : Fin 1 → Nat :=
  let c8192_i32_726 : BitVec 32 := 8192#32
  let c0_i32_723 : BitVec 32 := 0#32
  let c0_i32_368 : BitVec 32 := 0#32
  let c1_i32_370 : BitVec 32 := 1#32
  let arg12 : BitVec 32 := Scf.iv c0_i32_368 c1_i32_370 k0_t27
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk27 (v1162 : IVec S16 32) : Prop :=
  (∀ a x, ((![v1162] : Fin 1 → IVec S16 32) a x).toNat < S100000.size a)
theorem k0_idx27_inb : ∀ (v1162 : IVec S16 32) (k0_hw27 : k0_chk27 v1162), ∀ a x, ((![v1162] : Fin 1 → IVec S16 32) a x).toNat < S100000.size a := fun v1162 k0_hw27 => k0_hw27
def k0_off66 (k0_t27 : Fin k0_t27_loop.trips) : Fin 1 → Nat :=
  let c0_i32_723 : BitVec 32 := 0#32
  let c0_i32_368 : BitVec 32 := 0#32
  let c1_i32_370 : BitVec 32 := 1#32
  let arg12 : BitVec 32 := Scf.iv c0_i32_368 c1_i32_370 k0_t27
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t28_loop : Scf.Loop 32 :=
  let c0_i32_376 : BitVec 32 := 0#32
  let c256_i32_377 : BitVec 32 := 256#32
  let v609 : BitVec 32 := Scalar.addi c0_i32_376 c256_i32_377
  let c1_i32_378 : BitVec 32 := 1#32
  ⟨c0_i32_376, v609, c1_i32_378⟩
def k0_off67 (k0_t28 : Fin k0_t28_loop.trips) : Fin 1 → Nat :=
  let c12288_i32_726 : BitVec 32 := 12288#32
  let c0_i32_723 : BitVec 32 := 0#32
  let c0_i32_376 : BitVec 32 := 0#32
  let c1_i32_378 : BitVec 32 := 1#32
  let arg12 : BitVec 32 := Scf.iv c0_i32_376 c1_i32_378 k0_t28
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk28 (v1162 : IVec S16 32) : Prop :=
  (∀ a x, ((![v1162] : Fin 1 → IVec S16 32) a x).toNat < S100000.size a)
theorem k0_idx28_inb : ∀ (v1162 : IVec S16 32) (k0_hw28 : k0_chk28 v1162), ∀ a x, ((![v1162] : Fin 1 → IVec S16 32) a x).toNat < S100000.size a := fun v1162 k0_hw28 => k0_hw28
def k0_off68 (k0_t28 : Fin k0_t28_loop.trips) : Fin 1 → Nat :=
  let c0_i32_723 : BitVec 32 := 0#32
  let c0_i32_376 : BitVec 32 := 0#32
  let c1_i32_378 : BitVec 32 := 1#32
  let arg12 : BitVec 32 := Scf.iv c0_i32_376 c1_i32_378 k0_t28
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_cond7 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_393 : BitVec 32 := 13#32
  let v639 : BitVec 32 := Scalar.muli v1 c13_i32_393
  let c7_i32_394 : BitVec 32 := 7#32
  let v640 : BitVec 32 := Scalar.addi v639 c7_i32_394
  let c0_i32_396 : BitVec 32 := 0#32
  let v642 : BitVec 1 := Scalar.cmpi .sgt v640 c0_i32_396
  let v643 : BitVec 32 := Scalar.extui v642
  let c0_i32_397 : BitVec 32 := 0#32
  let v644 : BitVec 1 := Scalar.cmpi .slt v640 c0_i32_397
  let v645 : BitVec 32 := Scalar.extui v644
  let v646 : BitVec 32 := Scalar.subi v643 v645
  let c16_i32_395 : BitVec 32 := 16#32
  let c0_i32_398 : BitVec 32 := 0#32
  let v647 : BitVec 1 := Scalar.cmpi .sgt c16_i32_395 c0_i32_398
  let v648 : BitVec 32 := Scalar.extui v647
  let c0_i32_399 : BitVec 32 := 0#32
  let v649 : BitVec 1 := Scalar.cmpi .slt c16_i32_395 c0_i32_399
  let v650 : BitVec 32 := Scalar.extui v649
  let v651 : BitVec 32 := Scalar.subi v648 v650
  let v652 : BitVec 1 := Scalar.cmpi .ne v646 v651
  let v653 : BitVec 32 := Scalar.remsi v640 c16_i32_395
  let c0_i32_400 : BitVec 32 := 0#32
  let v654 : BitVec 1 := Scalar.cmpi .ne v653 c0_i32_400
  let v655 : BitVec 1 := Scalar.andi v652 v654
  let v641 : BitVec 32 := Scalar.divsi v640 c16_i32_395
  let c1_i32_401 : BitVec 32 := 1#32
  let v656 : BitVec 32 := Scalar.subi v641 c1_i32_401
  let v657 : BitVec 32 := Scalar.select v655 v656 v641
  let c13_i32_337 : BitVec 32 := 13#32
  let v550 : BitVec 32 := Scalar.muli v1 c13_i32_337
  let c6_i32_338 : BitVec 32 := 6#32
  let v551 : BitVec 32 := Scalar.addi v550 c6_i32_338
  let c0_i32_340 : BitVec 32 := 0#32
  let v553 : BitVec 1 := Scalar.cmpi .sgt v551 c0_i32_340
  let v554 : BitVec 32 := Scalar.extui v553
  let c0_i32_341 : BitVec 32 := 0#32
  let v555 : BitVec 1 := Scalar.cmpi .slt v551 c0_i32_341
  let v556 : BitVec 32 := Scalar.extui v555
  let v557 : BitVec 32 := Scalar.subi v554 v556
  let c16_i32_339 : BitVec 32 := 16#32
  let c0_i32_342 : BitVec 32 := 0#32
  let v558 : BitVec 1 := Scalar.cmpi .sgt c16_i32_339 c0_i32_342
  let v559 : BitVec 32 := Scalar.extui v558
  let c0_i32_343 : BitVec 32 := 0#32
  let v560 : BitVec 1 := Scalar.cmpi .slt c16_i32_339 c0_i32_343
  let v561 : BitVec 32 := Scalar.extui v560
  let v562 : BitVec 32 := Scalar.subi v559 v561
  let v563 : BitVec 1 := Scalar.cmpi .ne v557 v562
  let v564 : BitVec 32 := Scalar.remsi v551 c16_i32_339
  let c0_i32_344 : BitVec 32 := 0#32
  let v565 : BitVec 1 := Scalar.cmpi .ne v564 c0_i32_344
  let v566 : BitVec 1 := Scalar.andi v563 v565
  let v552 : BitVec 32 := Scalar.divsi v551 c16_i32_339
  let c1_i32_345 : BitVec 32 := 1#32
  let v567 : BitVec 32 := Scalar.subi v552 c1_i32_345
  let v568 : BitVec 32 := Scalar.select v566 v567 v552
  let v660 : BitVec 1 := Scalar.cmpi .ne v657 v568
  let v661 : BitVec 32 := Scalar.extui v660
  let c0_i32_403 : BitVec 32 := 0#32
  let v662 : BitVec 1 := Scalar.cmpi .ne v661 c0_i32_403
  v662

def k0_off69 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_393 : BitVec 32 := 13#32
  let v639 : BitVec 32 := Scalar.muli v1 c13_i32_393
  let c7_i32_394 : BitVec 32 := 7#32
  let v640 : BitVec 32 := Scalar.addi v639 c7_i32_394
  let c0_i32_396 : BitVec 32 := 0#32
  let v642 : BitVec 1 := Scalar.cmpi .sgt v640 c0_i32_396
  let v643 : BitVec 32 := Scalar.extui v642
  let c0_i32_397 : BitVec 32 := 0#32
  let v644 : BitVec 1 := Scalar.cmpi .slt v640 c0_i32_397
  let v645 : BitVec 32 := Scalar.extui v644
  let v646 : BitVec 32 := Scalar.subi v643 v645
  let c16_i32_395 : BitVec 32 := 16#32
  let c0_i32_398 : BitVec 32 := 0#32
  let v647 : BitVec 1 := Scalar.cmpi .sgt c16_i32_395 c0_i32_398
  let v648 : BitVec 32 := Scalar.extui v647
  let c0_i32_399 : BitVec 32 := 0#32
  let v649 : BitVec 1 := Scalar.cmpi .slt c16_i32_395 c0_i32_399
  let v650 : BitVec 32 := Scalar.extui v649
  let v651 : BitVec 32 := Scalar.subi v648 v650
  let v652 : BitVec 1 := Scalar.cmpi .ne v646 v651
  let v653 : BitVec 32 := Scalar.remsi v640 c16_i32_395
  let c0_i32_400 : BitVec 32 := 0#32
  let v654 : BitVec 1 := Scalar.cmpi .ne v653 c0_i32_400
  let v655 : BitVec 1 := Scalar.andi v652 v654
  let v641 : BitVec 32 := Scalar.divsi v640 c16_i32_395
  let c1_i32_401 : BitVec 32 := 1#32
  let v656 : BitVec 32 := Scalar.subi v641 c1_i32_401
  let v657 : BitVec 32 := Scalar.select v655 v656 v641
  let c0_i32_722_r7 : BitVec 32 := 0#32
  ![v657.toNat, 0]
@[reducible] def k0_t29_loop : Scf.Loop 32 :=
  let c0_i32_408 : BitVec 32 := 0#32
  let c256_i32_409 : BitVec 32 := 256#32
  let v671 : BitVec 32 := Scalar.addi c0_i32_408 c256_i32_409
  let c1_i32_410 : BitVec 32 := 1#32
  ⟨c0_i32_408, v671, c1_i32_410⟩
def k0_off70 (k0_t29 : Fin k0_t29_loop.trips) : Fin 1 → Nat :=
  let c0_i32_726 : BitVec 32 := 0#32
  let c0_i32_723 : BitVec 32 := 0#32
  let c0_i32_408 : BitVec 32 := 0#32
  let c1_i32_410 : BitVec 32 := 1#32
  let arg12 : BitVec 32 := Scf.iv c0_i32_408 c1_i32_410 k0_t29
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk29 (v1162 : IVec S16 32) : Prop :=
  (∀ a x, ((![v1162] : Fin 1 → IVec S16 32) a x).toNat < S100000.size a)
theorem k0_idx29_inb : ∀ (v1162 : IVec S16 32) (k0_hw29 : k0_chk29 v1162), ∀ a x, ((![v1162] : Fin 1 → IVec S16 32) a x).toNat < S100000.size a := fun v1162 k0_hw29 => k0_hw29
def k0_off71 (k0_t29 : Fin k0_t29_loop.trips) : Fin 1 → Nat :=
  let c0_i32_723 : BitVec 32 := 0#32
  let c0_i32_408 : BitVec 32 := 0#32
  let c1_i32_410 : BitVec 32 := 1#32
  let arg12 : BitVec 32 := Scf.iv c0_i32_408 c1_i32_410 k0_t29
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t30_loop : Scf.Loop 32 :=
  let c0_i32_416 : BitVec 32 := 0#32
  let c256_i32_417 : BitVec 32 := 256#32
  let v680 : BitVec 32 := Scalar.addi c0_i32_416 c256_i32_417
  let c1_i32_418 : BitVec 32 := 1#32
  ⟨c0_i32_416, v680, c1_i32_418⟩
def k0_off72 (k0_t30 : Fin k0_t30_loop.trips) : Fin 1 → Nat :=
  let c4096_i32_726 : BitVec 32 := 4096#32
  let c0_i32_723 : BitVec 32 := 0#32
  let c0_i32_416 : BitVec 32 := 0#32
  let c1_i32_418 : BitVec 32 := 1#32
  let arg12 : BitVec 32 := Scf.iv c0_i32_416 c1_i32_418 k0_t30
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk30 (v1162 : IVec S16 32) : Prop :=
  (∀ a x, ((![v1162] : Fin 1 → IVec S16 32) a x).toNat < S100000.size a)
theorem k0_idx30_inb : ∀ (v1162 : IVec S16 32) (k0_hw30 : k0_chk30 v1162), ∀ a x, ((![v1162] : Fin 1 → IVec S16 32) a x).toNat < S100000.size a := fun v1162 k0_hw30 => k0_hw30
def k0_off73 (k0_t30 : Fin k0_t30_loop.trips) : Fin 1 → Nat :=
  let c0_i32_723 : BitVec 32 := 0#32
  let c0_i32_416 : BitVec 32 := 0#32
  let c1_i32_418 : BitVec 32 := 1#32
  let arg12 : BitVec 32 := Scf.iv c0_i32_416 c1_i32_418 k0_t30
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t31_loop : Scf.Loop 32 :=
  let c0_i32_424 : BitVec 32 := 0#32
  let c256_i32_425 : BitVec 32 := 256#32
  let v689 : BitVec 32 := Scalar.addi c0_i32_424 c256_i32_425
  let c1_i32_426 : BitVec 32 := 1#32
  ⟨c0_i32_424, v689, c1_i32_426⟩
def k0_off74 (k0_t31 : Fin k0_t31_loop.trips) : Fin 1 → Nat :=
  let c8192_i32_726 : BitVec 32 := 8192#32
  let c0_i32_723 : BitVec 32 := 0#32
  let c0_i32_424 : BitVec 32 := 0#32
  let c1_i32_426 : BitVec 32 := 1#32
  let arg12 : BitVec 32 := Scf.iv c0_i32_424 c1_i32_426 k0_t31
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk31 (v1162 : IVec S16 32) : Prop :=
  (∀ a x, ((![v1162] : Fin 1 → IVec S16 32) a x).toNat < S100000.size a)
theorem k0_idx31_inb : ∀ (v1162 : IVec S16 32) (k0_hw31 : k0_chk31 v1162), ∀ a x, ((![v1162] : Fin 1 → IVec S16 32) a x).toNat < S100000.size a := fun v1162 k0_hw31 => k0_hw31
def k0_off75 (k0_t31 : Fin k0_t31_loop.trips) : Fin 1 → Nat :=
  let c0_i32_723 : BitVec 32 := 0#32
  let c0_i32_424 : BitVec 32 := 0#32
  let c1_i32_426 : BitVec 32 := 1#32
  let arg12 : BitVec 32 := Scf.iv c0_i32_424 c1_i32_426 k0_t31
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t32_loop : Scf.Loop 32 :=
  let c0_i32_432 : BitVec 32 := 0#32
  let c256_i32_433 : BitVec 32 := 256#32
  let v698 : BitVec 32 := Scalar.addi c0_i32_432 c256_i32_433
  let c1_i32_434 : BitVec 32 := 1#32
  ⟨c0_i32_432, v698, c1_i32_434⟩
def k0_off76 (k0_t32 : Fin k0_t32_loop.trips) : Fin 1 → Nat :=
  let c12288_i32_726 : BitVec 32 := 12288#32
  let c0_i32_723 : BitVec 32 := 0#32
  let c0_i32_432 : BitVec 32 := 0#32
  let c1_i32_434 : BitVec 32 := 1#32
  let arg12 : BitVec 32 := Scf.iv c0_i32_432 c1_i32_434 k0_t32
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk32 (v1162 : IVec S16 32) : Prop :=
  (∀ a x, ((![v1162] : Fin 1 → IVec S16 32) a x).toNat < S100000.size a)
theorem k0_idx32_inb : ∀ (v1162 : IVec S16 32) (k0_hw32 : k0_chk32 v1162), ∀ a x, ((![v1162] : Fin 1 → IVec S16 32) a x).toNat < S100000.size a := fun v1162 k0_hw32 => k0_hw32
def k0_off77 (k0_t32 : Fin k0_t32_loop.trips) : Fin 1 → Nat :=
  let c0_i32_723 : BitVec 32 := 0#32
  let c0_i32_432 : BitVec 32 := 0#32
  let c1_i32_434 : BitVec 32 := 1#32
  let arg12 : BitVec 32 := Scf.iv c0_i32_432 c1_i32_434 k0_t32
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_cond8 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_449 : BitVec 32 := 13#32
  let v728 : BitVec 32 := Scalar.muli v1 c13_i32_449
  let c8_i32_450 : BitVec 32 := 8#32
  let v729 : BitVec 32 := Scalar.addi v728 c8_i32_450
  let c0_i32_452 : BitVec 32 := 0#32
  let v731 : BitVec 1 := Scalar.cmpi .sgt v729 c0_i32_452
  let v732 : BitVec 32 := Scalar.extui v731
  let c0_i32_453 : BitVec 32 := 0#32
  let v733 : BitVec 1 := Scalar.cmpi .slt v729 c0_i32_453
  let v734 : BitVec 32 := Scalar.extui v733
  let v735 : BitVec 32 := Scalar.subi v732 v734
  let c16_i32_451 : BitVec 32 := 16#32
  let c0_i32_454 : BitVec 32 := 0#32
  let v736 : BitVec 1 := Scalar.cmpi .sgt c16_i32_451 c0_i32_454
  let v737 : BitVec 32 := Scalar.extui v736
  let c0_i32_455 : BitVec 32 := 0#32
  let v738 : BitVec 1 := Scalar.cmpi .slt c16_i32_451 c0_i32_455
  let v739 : BitVec 32 := Scalar.extui v738
  let v740 : BitVec 32 := Scalar.subi v737 v739
  let v741 : BitVec 1 := Scalar.cmpi .ne v735 v740
  let v742 : BitVec 32 := Scalar.remsi v729 c16_i32_451
  let c0_i32_456 : BitVec 32 := 0#32
  let v743 : BitVec 1 := Scalar.cmpi .ne v742 c0_i32_456
  let v744 : BitVec 1 := Scalar.andi v741 v743
  let v730 : BitVec 32 := Scalar.divsi v729 c16_i32_451
  let c1_i32_457 : BitVec 32 := 1#32
  let v745 : BitVec 32 := Scalar.subi v730 c1_i32_457
  let v746 : BitVec 32 := Scalar.select v744 v745 v730
  let c13_i32_393 : BitVec 32 := 13#32
  let v639 : BitVec 32 := Scalar.muli v1 c13_i32_393
  let c7_i32_394 : BitVec 32 := 7#32
  let v640 : BitVec 32 := Scalar.addi v639 c7_i32_394
  let c0_i32_396 : BitVec 32 := 0#32
  let v642 : BitVec 1 := Scalar.cmpi .sgt v640 c0_i32_396
  let v643 : BitVec 32 := Scalar.extui v642
  let c0_i32_397 : BitVec 32 := 0#32
  let v644 : BitVec 1 := Scalar.cmpi .slt v640 c0_i32_397
  let v645 : BitVec 32 := Scalar.extui v644
  let v646 : BitVec 32 := Scalar.subi v643 v645
  let c16_i32_395 : BitVec 32 := 16#32
  let c0_i32_398 : BitVec 32 := 0#32
  let v647 : BitVec 1 := Scalar.cmpi .sgt c16_i32_395 c0_i32_398
  let v648 : BitVec 32 := Scalar.extui v647
  let c0_i32_399 : BitVec 32 := 0#32
  let v649 : BitVec 1 := Scalar.cmpi .slt c16_i32_395 c0_i32_399
  let v650 : BitVec 32 := Scalar.extui v649
  let v651 : BitVec 32 := Scalar.subi v648 v650
  let v652 : BitVec 1 := Scalar.cmpi .ne v646 v651
  let v653 : BitVec 32 := Scalar.remsi v640 c16_i32_395
  let c0_i32_400 : BitVec 32 := 0#32
  let v654 : BitVec 1 := Scalar.cmpi .ne v653 c0_i32_400
  let v655 : BitVec 1 := Scalar.andi v652 v654
  let v641 : BitVec 32 := Scalar.divsi v640 c16_i32_395
  let c1_i32_401 : BitVec 32 := 1#32
  let v656 : BitVec 32 := Scalar.subi v641 c1_i32_401
  let v657 : BitVec 32 := Scalar.select v655 v656 v641
  let v749 : BitVec 1 := Scalar.cmpi .ne v746 v657
  let v750 : BitVec 32 := Scalar.extui v749
  let c0_i32_459 : BitVec 32 := 0#32
  let v751 : BitVec 1 := Scalar.cmpi .ne v750 c0_i32_459
  v751

def k0_off78 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_449 : BitVec 32 := 13#32
  let v728 : BitVec 32 := Scalar.muli v1 c13_i32_449
  let c8_i32_450 : BitVec 32 := 8#32
  let v729 : BitVec 32 := Scalar.addi v728 c8_i32_450
  let c0_i32_452 : BitVec 32 := 0#32
  let v731 : BitVec 1 := Scalar.cmpi .sgt v729 c0_i32_452
  let v732 : BitVec 32 := Scalar.extui v731
  let c0_i32_453 : BitVec 32 := 0#32
  let v733 : BitVec 1 := Scalar.cmpi .slt v729 c0_i32_453
  let v734 : BitVec 32 := Scalar.extui v733
  let v735 : BitVec 32 := Scalar.subi v732 v734
  let c16_i32_451 : BitVec 32 := 16#32
  let c0_i32_454 : BitVec 32 := 0#32
  let v736 : BitVec 1 := Scalar.cmpi .sgt c16_i32_451 c0_i32_454
  let v737 : BitVec 32 := Scalar.extui v736
  let c0_i32_455 : BitVec 32 := 0#32
  let v738 : BitVec 1 := Scalar.cmpi .slt c16_i32_451 c0_i32_455
  let v739 : BitVec 32 := Scalar.extui v738
  let v740 : BitVec 32 := Scalar.subi v737 v739
  let v741 : BitVec 1 := Scalar.cmpi .ne v735 v740
  let v742 : BitVec 32 := Scalar.remsi v729 c16_i32_451
  let c0_i32_456 : BitVec 32 := 0#32
  let v743 : BitVec 1 := Scalar.cmpi .ne v742 c0_i32_456
  let v744 : BitVec 1 := Scalar.andi v741 v743
  let v730 : BitVec 32 := Scalar.divsi v729 c16_i32_451
  let c1_i32_457 : BitVec 32 := 1#32
  let v745 : BitVec 32 := Scalar.subi v730 c1_i32_457
  let v746 : BitVec 32 := Scalar.select v744 v745 v730
  let c0_i32_722_r8 : BitVec 32 := 0#32
  ![v746.toNat, 0]
@[reducible] def k0_t33_loop : Scf.Loop 32 :=
  let c0_i32_464 : BitVec 32 := 0#32
  let c256_i32_465 : BitVec 32 := 256#32
  let v760 : BitVec 32 := Scalar.addi c0_i32_464 c256_i32_465
  let c1_i32_466 : BitVec 32 := 1#32
  ⟨c0_i32_464, v760, c1_i32_466⟩
def k0_off79 (k0_t33 : Fin k0_t33_loop.trips) : Fin 1 → Nat :=
  let c0_i32_726 : BitVec 32 := 0#32
  let c0_i32_723 : BitVec 32 := 0#32
  let c0_i32_464 : BitVec 32 := 0#32
  let c1_i32_466 : BitVec 32 := 1#32
  let arg12 : BitVec 32 := Scf.iv c0_i32_464 c1_i32_466 k0_t33
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk33 (v1162 : IVec S16 32) : Prop :=
  (∀ a x, ((![v1162] : Fin 1 → IVec S16 32) a x).toNat < S100000.size a)
theorem k0_idx33_inb : ∀ (v1162 : IVec S16 32) (k0_hw33 : k0_chk33 v1162), ∀ a x, ((![v1162] : Fin 1 → IVec S16 32) a x).toNat < S100000.size a := fun v1162 k0_hw33 => k0_hw33
def k0_off80 (k0_t33 : Fin k0_t33_loop.trips) : Fin 1 → Nat :=
  let c0_i32_723 : BitVec 32 := 0#32
  let c0_i32_464 : BitVec 32 := 0#32
  let c1_i32_466 : BitVec 32 := 1#32
  let arg12 : BitVec 32 := Scf.iv c0_i32_464 c1_i32_466 k0_t33
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t34_loop : Scf.Loop 32 :=
  let c0_i32_472 : BitVec 32 := 0#32
  let c256_i32_473 : BitVec 32 := 256#32
  let v769 : BitVec 32 := Scalar.addi c0_i32_472 c256_i32_473
  let c1_i32_474 : BitVec 32 := 1#32
  ⟨c0_i32_472, v769, c1_i32_474⟩
def k0_off81 (k0_t34 : Fin k0_t34_loop.trips) : Fin 1 → Nat :=
  let c4096_i32_726 : BitVec 32 := 4096#32
  let c0_i32_723 : BitVec 32 := 0#32
  let c0_i32_472 : BitVec 32 := 0#32
  let c1_i32_474 : BitVec 32 := 1#32
  let arg12 : BitVec 32 := Scf.iv c0_i32_472 c1_i32_474 k0_t34
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk34 (v1162 : IVec S16 32) : Prop :=
  (∀ a x, ((![v1162] : Fin 1 → IVec S16 32) a x).toNat < S100000.size a)
theorem k0_idx34_inb : ∀ (v1162 : IVec S16 32) (k0_hw34 : k0_chk34 v1162), ∀ a x, ((![v1162] : Fin 1 → IVec S16 32) a x).toNat < S100000.size a := fun v1162 k0_hw34 => k0_hw34
def k0_off82 (k0_t34 : Fin k0_t34_loop.trips) : Fin 1 → Nat :=
  let c0_i32_723 : BitVec 32 := 0#32
  let c0_i32_472 : BitVec 32 := 0#32
  let c1_i32_474 : BitVec 32 := 1#32
  let arg12 : BitVec 32 := Scf.iv c0_i32_472 c1_i32_474 k0_t34
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t35_loop : Scf.Loop 32 :=
  let c0_i32_480 : BitVec 32 := 0#32
  let c256_i32_481 : BitVec 32 := 256#32
  let v778 : BitVec 32 := Scalar.addi c0_i32_480 c256_i32_481
  let c1_i32_482 : BitVec 32 := 1#32
  ⟨c0_i32_480, v778, c1_i32_482⟩
def k0_off83 (k0_t35 : Fin k0_t35_loop.trips) : Fin 1 → Nat :=
  let c8192_i32_726 : BitVec 32 := 8192#32
  let c0_i32_723 : BitVec 32 := 0#32
  let c0_i32_480 : BitVec 32 := 0#32
  let c1_i32_482 : BitVec 32 := 1#32
  let arg12 : BitVec 32 := Scf.iv c0_i32_480 c1_i32_482 k0_t35
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk35 (v1162 : IVec S16 32) : Prop :=
  (∀ a x, ((![v1162] : Fin 1 → IVec S16 32) a x).toNat < S100000.size a)
theorem k0_idx35_inb : ∀ (v1162 : IVec S16 32) (k0_hw35 : k0_chk35 v1162), ∀ a x, ((![v1162] : Fin 1 → IVec S16 32) a x).toNat < S100000.size a := fun v1162 k0_hw35 => k0_hw35
def k0_off84 (k0_t35 : Fin k0_t35_loop.trips) : Fin 1 → Nat :=
  let c0_i32_723 : BitVec 32 := 0#32
  let c0_i32_480 : BitVec 32 := 0#32
  let c1_i32_482 : BitVec 32 := 1#32
  let arg12 : BitVec 32 := Scf.iv c0_i32_480 c1_i32_482 k0_t35
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t36_loop : Scf.Loop 32 :=
  let c0_i32_488 : BitVec 32 := 0#32
  let c256_i32_489 : BitVec 32 := 256#32
  let v787 : BitVec 32 := Scalar.addi c0_i32_488 c256_i32_489
  let c1_i32_490 : BitVec 32 := 1#32
  ⟨c0_i32_488, v787, c1_i32_490⟩
def k0_off85 (k0_t36 : Fin k0_t36_loop.trips) : Fin 1 → Nat :=
  let c12288_i32_726 : BitVec 32 := 12288#32
  let c0_i32_723 : BitVec 32 := 0#32
  let c0_i32_488 : BitVec 32 := 0#32
  let c1_i32_490 : BitVec 32 := 1#32
  let arg12 : BitVec 32 := Scf.iv c0_i32_488 c1_i32_490 k0_t36
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk36 (v1162 : IVec S16 32) : Prop :=
  (∀ a x, ((![v1162] : Fin 1 → IVec S16 32) a x).toNat < S100000.size a)
theorem k0_idx36_inb : ∀ (v1162 : IVec S16 32) (k0_hw36 : k0_chk36 v1162), ∀ a x, ((![v1162] : Fin 1 → IVec S16 32) a x).toNat < S100000.size a := fun v1162 k0_hw36 => k0_hw36
def k0_off86 (k0_t36 : Fin k0_t36_loop.trips) : Fin 1 → Nat :=
  let c0_i32_723 : BitVec 32 := 0#32
  let c0_i32_488 : BitVec 32 := 0#32
  let c1_i32_490 : BitVec 32 := 1#32
  let arg12 : BitVec 32 := Scf.iv c0_i32_488 c1_i32_490 k0_t36
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_cond9 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_505 : BitVec 32 := 13#32
  let v817 : BitVec 32 := Scalar.muli v1 c13_i32_505
  let c9_i32_506 : BitVec 32 := 9#32
  let v818 : BitVec 32 := Scalar.addi v817 c9_i32_506
  let c0_i32_508 : BitVec 32 := 0#32
  let v820 : BitVec 1 := Scalar.cmpi .sgt v818 c0_i32_508
  let v821 : BitVec 32 := Scalar.extui v820
  let c0_i32_509 : BitVec 32 := 0#32
  let v822 : BitVec 1 := Scalar.cmpi .slt v818 c0_i32_509
  let v823 : BitVec 32 := Scalar.extui v822
  let v824 : BitVec 32 := Scalar.subi v821 v823
  let c16_i32_507 : BitVec 32 := 16#32
  let c0_i32_510 : BitVec 32 := 0#32
  let v825 : BitVec 1 := Scalar.cmpi .sgt c16_i32_507 c0_i32_510
  let v826 : BitVec 32 := Scalar.extui v825
  let c0_i32_511 : BitVec 32 := 0#32
  let v827 : BitVec 1 := Scalar.cmpi .slt c16_i32_507 c0_i32_511
  let v828 : BitVec 32 := Scalar.extui v827
  let v829 : BitVec 32 := Scalar.subi v826 v828
  let v830 : BitVec 1 := Scalar.cmpi .ne v824 v829
  let v831 : BitVec 32 := Scalar.remsi v818 c16_i32_507
  let c0_i32_512 : BitVec 32 := 0#32
  let v832 : BitVec 1 := Scalar.cmpi .ne v831 c0_i32_512
  let v833 : BitVec 1 := Scalar.andi v830 v832
  let v819 : BitVec 32 := Scalar.divsi v818 c16_i32_507
  let c1_i32_513 : BitVec 32 := 1#32
  let v834 : BitVec 32 := Scalar.subi v819 c1_i32_513
  let v835 : BitVec 32 := Scalar.select v833 v834 v819
  let c13_i32_449 : BitVec 32 := 13#32
  let v728 : BitVec 32 := Scalar.muli v1 c13_i32_449
  let c8_i32_450 : BitVec 32 := 8#32
  let v729 : BitVec 32 := Scalar.addi v728 c8_i32_450
  let c0_i32_452 : BitVec 32 := 0#32
  let v731 : BitVec 1 := Scalar.cmpi .sgt v729 c0_i32_452
  let v732 : BitVec 32 := Scalar.extui v731
  let c0_i32_453 : BitVec 32 := 0#32
  let v733 : BitVec 1 := Scalar.cmpi .slt v729 c0_i32_453
  let v734 : BitVec 32 := Scalar.extui v733
  let v735 : BitVec 32 := Scalar.subi v732 v734
  let c16_i32_451 : BitVec 32 := 16#32
  let c0_i32_454 : BitVec 32 := 0#32
  let v736 : BitVec 1 := Scalar.cmpi .sgt c16_i32_451 c0_i32_454
  let v737 : BitVec 32 := Scalar.extui v736
  let c0_i32_455 : BitVec 32 := 0#32
  let v738 : BitVec 1 := Scalar.cmpi .slt c16_i32_451 c0_i32_455
  let v739 : BitVec 32 := Scalar.extui v738
  let v740 : BitVec 32 := Scalar.subi v737 v739
  let v741 : BitVec 1 := Scalar.cmpi .ne v735 v740
  let v742 : BitVec 32 := Scalar.remsi v729 c16_i32_451
  let c0_i32_456 : BitVec 32 := 0#32
  let v743 : BitVec 1 := Scalar.cmpi .ne v742 c0_i32_456
  let v744 : BitVec 1 := Scalar.andi v741 v743
  let v730 : BitVec 32 := Scalar.divsi v729 c16_i32_451
  let c1_i32_457 : BitVec 32 := 1#32
  let v745 : BitVec 32 := Scalar.subi v730 c1_i32_457
  let v746 : BitVec 32 := Scalar.select v744 v745 v730
  let v838 : BitVec 1 := Scalar.cmpi .ne v835 v746
  let v839 : BitVec 32 := Scalar.extui v838
  let c0_i32_515 : BitVec 32 := 0#32
  let v840 : BitVec 1 := Scalar.cmpi .ne v839 c0_i32_515
  v840

def k0_off87 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_505 : BitVec 32 := 13#32
  let v817 : BitVec 32 := Scalar.muli v1 c13_i32_505
  let c9_i32_506 : BitVec 32 := 9#32
  let v818 : BitVec 32 := Scalar.addi v817 c9_i32_506
  let c0_i32_508 : BitVec 32 := 0#32
  let v820 : BitVec 1 := Scalar.cmpi .sgt v818 c0_i32_508
  let v821 : BitVec 32 := Scalar.extui v820
  let c0_i32_509 : BitVec 32 := 0#32
  let v822 : BitVec 1 := Scalar.cmpi .slt v818 c0_i32_509
  let v823 : BitVec 32 := Scalar.extui v822
  let v824 : BitVec 32 := Scalar.subi v821 v823
  let c16_i32_507 : BitVec 32 := 16#32
  let c0_i32_510 : BitVec 32 := 0#32
  let v825 : BitVec 1 := Scalar.cmpi .sgt c16_i32_507 c0_i32_510
  let v826 : BitVec 32 := Scalar.extui v825
  let c0_i32_511 : BitVec 32 := 0#32
  let v827 : BitVec 1 := Scalar.cmpi .slt c16_i32_507 c0_i32_511
  let v828 : BitVec 32 := Scalar.extui v827
  let v829 : BitVec 32 := Scalar.subi v826 v828
  let v830 : BitVec 1 := Scalar.cmpi .ne v824 v829
  let v831 : BitVec 32 := Scalar.remsi v818 c16_i32_507
  let c0_i32_512 : BitVec 32 := 0#32
  let v832 : BitVec 1 := Scalar.cmpi .ne v831 c0_i32_512
  let v833 : BitVec 1 := Scalar.andi v830 v832
  let v819 : BitVec 32 := Scalar.divsi v818 c16_i32_507
  let c1_i32_513 : BitVec 32 := 1#32
  let v834 : BitVec 32 := Scalar.subi v819 c1_i32_513
  let v835 : BitVec 32 := Scalar.select v833 v834 v819
  let c0_i32_722_r9 : BitVec 32 := 0#32
  ![v835.toNat, 0]
@[reducible] def k0_t37_loop : Scf.Loop 32 :=
  let c0_i32_520 : BitVec 32 := 0#32
  let c256_i32_521 : BitVec 32 := 256#32
  let v849 : BitVec 32 := Scalar.addi c0_i32_520 c256_i32_521
  let c1_i32_522 : BitVec 32 := 1#32
  ⟨c0_i32_520, v849, c1_i32_522⟩
def k0_off88 (k0_t37 : Fin k0_t37_loop.trips) : Fin 1 → Nat :=
  let c0_i32_726 : BitVec 32 := 0#32
  let c0_i32_723 : BitVec 32 := 0#32
  let c0_i32_520 : BitVec 32 := 0#32
  let c1_i32_522 : BitVec 32 := 1#32
  let arg12 : BitVec 32 := Scf.iv c0_i32_520 c1_i32_522 k0_t37
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk37 (v1162 : IVec S16 32) : Prop :=
  (∀ a x, ((![v1162] : Fin 1 → IVec S16 32) a x).toNat < S100000.size a)
theorem k0_idx37_inb : ∀ (v1162 : IVec S16 32) (k0_hw37 : k0_chk37 v1162), ∀ a x, ((![v1162] : Fin 1 → IVec S16 32) a x).toNat < S100000.size a := fun v1162 k0_hw37 => k0_hw37
def k0_off89 (k0_t37 : Fin k0_t37_loop.trips) : Fin 1 → Nat :=
  let c0_i32_723 : BitVec 32 := 0#32
  let c0_i32_520 : BitVec 32 := 0#32
  let c1_i32_522 : BitVec 32 := 1#32
  let arg12 : BitVec 32 := Scf.iv c0_i32_520 c1_i32_522 k0_t37
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t38_loop : Scf.Loop 32 :=
  let c0_i32_528 : BitVec 32 := 0#32
  let c256_i32_529 : BitVec 32 := 256#32
  let v858 : BitVec 32 := Scalar.addi c0_i32_528 c256_i32_529
  let c1_i32_530 : BitVec 32 := 1#32
  ⟨c0_i32_528, v858, c1_i32_530⟩
def k0_off90 (k0_t38 : Fin k0_t38_loop.trips) : Fin 1 → Nat :=
  let c4096_i32_726 : BitVec 32 := 4096#32
  let c0_i32_723 : BitVec 32 := 0#32
  let c0_i32_528 : BitVec 32 := 0#32
  let c1_i32_530 : BitVec 32 := 1#32
  let arg12 : BitVec 32 := Scf.iv c0_i32_528 c1_i32_530 k0_t38
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk38 (v1162 : IVec S16 32) : Prop :=
  (∀ a x, ((![v1162] : Fin 1 → IVec S16 32) a x).toNat < S100000.size a)
theorem k0_idx38_inb : ∀ (v1162 : IVec S16 32) (k0_hw38 : k0_chk38 v1162), ∀ a x, ((![v1162] : Fin 1 → IVec S16 32) a x).toNat < S100000.size a := fun v1162 k0_hw38 => k0_hw38
def k0_off91 (k0_t38 : Fin k0_t38_loop.trips) : Fin 1 → Nat :=
  let c0_i32_723 : BitVec 32 := 0#32
  let c0_i32_528 : BitVec 32 := 0#32
  let c1_i32_530 : BitVec 32 := 1#32
  let arg12 : BitVec 32 := Scf.iv c0_i32_528 c1_i32_530 k0_t38
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t39_loop : Scf.Loop 32 :=
  let c0_i32_536 : BitVec 32 := 0#32
  let c256_i32_537 : BitVec 32 := 256#32
  let v867 : BitVec 32 := Scalar.addi c0_i32_536 c256_i32_537
  let c1_i32_538 : BitVec 32 := 1#32
  ⟨c0_i32_536, v867, c1_i32_538⟩
def k0_off92 (k0_t39 : Fin k0_t39_loop.trips) : Fin 1 → Nat :=
  let c8192_i32_726 : BitVec 32 := 8192#32
  let c0_i32_723 : BitVec 32 := 0#32
  let c0_i32_536 : BitVec 32 := 0#32
  let c1_i32_538 : BitVec 32 := 1#32
  let arg12 : BitVec 32 := Scf.iv c0_i32_536 c1_i32_538 k0_t39
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk39 (v1162 : IVec S16 32) : Prop :=
  (∀ a x, ((![v1162] : Fin 1 → IVec S16 32) a x).toNat < S100000.size a)
theorem k0_idx39_inb : ∀ (v1162 : IVec S16 32) (k0_hw39 : k0_chk39 v1162), ∀ a x, ((![v1162] : Fin 1 → IVec S16 32) a x).toNat < S100000.size a := fun v1162 k0_hw39 => k0_hw39
def k0_off93 (k0_t39 : Fin k0_t39_loop.trips) : Fin 1 → Nat :=
  let c0_i32_723 : BitVec 32 := 0#32
  let c0_i32_536 : BitVec 32 := 0#32
  let c1_i32_538 : BitVec 32 := 1#32
  let arg12 : BitVec 32 := Scf.iv c0_i32_536 c1_i32_538 k0_t39
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t40_loop : Scf.Loop 32 :=
  let c0_i32_544 : BitVec 32 := 0#32
  let c256_i32_545 : BitVec 32 := 256#32
  let v876 : BitVec 32 := Scalar.addi c0_i32_544 c256_i32_545
  let c1_i32_546 : BitVec 32 := 1#32
  ⟨c0_i32_544, v876, c1_i32_546⟩
def k0_off94 (k0_t40 : Fin k0_t40_loop.trips) : Fin 1 → Nat :=
  let c12288_i32_726 : BitVec 32 := 12288#32
  let c0_i32_723 : BitVec 32 := 0#32
  let c0_i32_544 : BitVec 32 := 0#32
  let c1_i32_546 : BitVec 32 := 1#32
  let arg12 : BitVec 32 := Scf.iv c0_i32_544 c1_i32_546 k0_t40
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk40 (v1162 : IVec S16 32) : Prop :=
  (∀ a x, ((![v1162] : Fin 1 → IVec S16 32) a x).toNat < S100000.size a)
theorem k0_idx40_inb : ∀ (v1162 : IVec S16 32) (k0_hw40 : k0_chk40 v1162), ∀ a x, ((![v1162] : Fin 1 → IVec S16 32) a x).toNat < S100000.size a := fun v1162 k0_hw40 => k0_hw40
def k0_off95 (k0_t40 : Fin k0_t40_loop.trips) : Fin 1 → Nat :=
  let c0_i32_723 : BitVec 32 := 0#32
  let c0_i32_544 : BitVec 32 := 0#32
  let c1_i32_546 : BitVec 32 := 1#32
  let arg12 : BitVec 32 := Scf.iv c0_i32_544 c1_i32_546 k0_t40
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_cond10 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_561 : BitVec 32 := 13#32
  let v906 : BitVec 32 := Scalar.muli v1 c13_i32_561
  let c10_i32_562 : BitVec 32 := 10#32
  let v907 : BitVec 32 := Scalar.addi v906 c10_i32_562
  let c0_i32_564 : BitVec 32 := 0#32
  let v909 : BitVec 1 := Scalar.cmpi .sgt v907 c0_i32_564
  let v910 : BitVec 32 := Scalar.extui v909
  let c0_i32_565 : BitVec 32 := 0#32
  let v911 : BitVec 1 := Scalar.cmpi .slt v907 c0_i32_565
  let v912 : BitVec 32 := Scalar.extui v911
  let v913 : BitVec 32 := Scalar.subi v910 v912
  let c16_i32_563 : BitVec 32 := 16#32
  let c0_i32_566 : BitVec 32 := 0#32
  let v914 : BitVec 1 := Scalar.cmpi .sgt c16_i32_563 c0_i32_566
  let v915 : BitVec 32 := Scalar.extui v914
  let c0_i32_567 : BitVec 32 := 0#32
  let v916 : BitVec 1 := Scalar.cmpi .slt c16_i32_563 c0_i32_567
  let v917 : BitVec 32 := Scalar.extui v916
  let v918 : BitVec 32 := Scalar.subi v915 v917
  let v919 : BitVec 1 := Scalar.cmpi .ne v913 v918
  let v920 : BitVec 32 := Scalar.remsi v907 c16_i32_563
  let c0_i32_568 : BitVec 32 := 0#32
  let v921 : BitVec 1 := Scalar.cmpi .ne v920 c0_i32_568
  let v922 : BitVec 1 := Scalar.andi v919 v921
  let v908 : BitVec 32 := Scalar.divsi v907 c16_i32_563
  let c1_i32_569 : BitVec 32 := 1#32
  let v923 : BitVec 32 := Scalar.subi v908 c1_i32_569
  let v924 : BitVec 32 := Scalar.select v922 v923 v908
  let c13_i32_505 : BitVec 32 := 13#32
  let v817 : BitVec 32 := Scalar.muli v1 c13_i32_505
  let c9_i32_506 : BitVec 32 := 9#32
  let v818 : BitVec 32 := Scalar.addi v817 c9_i32_506
  let c0_i32_508 : BitVec 32 := 0#32
  let v820 : BitVec 1 := Scalar.cmpi .sgt v818 c0_i32_508
  let v821 : BitVec 32 := Scalar.extui v820
  let c0_i32_509 : BitVec 32 := 0#32
  let v822 : BitVec 1 := Scalar.cmpi .slt v818 c0_i32_509
  let v823 : BitVec 32 := Scalar.extui v822
  let v824 : BitVec 32 := Scalar.subi v821 v823
  let c16_i32_507 : BitVec 32 := 16#32
  let c0_i32_510 : BitVec 32 := 0#32
  let v825 : BitVec 1 := Scalar.cmpi .sgt c16_i32_507 c0_i32_510
  let v826 : BitVec 32 := Scalar.extui v825
  let c0_i32_511 : BitVec 32 := 0#32
  let v827 : BitVec 1 := Scalar.cmpi .slt c16_i32_507 c0_i32_511
  let v828 : BitVec 32 := Scalar.extui v827
  let v829 : BitVec 32 := Scalar.subi v826 v828
  let v830 : BitVec 1 := Scalar.cmpi .ne v824 v829
  let v831 : BitVec 32 := Scalar.remsi v818 c16_i32_507
  let c0_i32_512 : BitVec 32 := 0#32
  let v832 : BitVec 1 := Scalar.cmpi .ne v831 c0_i32_512
  let v833 : BitVec 1 := Scalar.andi v830 v832
  let v819 : BitVec 32 := Scalar.divsi v818 c16_i32_507
  let c1_i32_513 : BitVec 32 := 1#32
  let v834 : BitVec 32 := Scalar.subi v819 c1_i32_513
  let v835 : BitVec 32 := Scalar.select v833 v834 v819
  let v927 : BitVec 1 := Scalar.cmpi .ne v924 v835
  let v928 : BitVec 32 := Scalar.extui v927
  let c0_i32_571 : BitVec 32 := 0#32
  let v929 : BitVec 1 := Scalar.cmpi .ne v928 c0_i32_571
  v929

def k0_off96 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_561 : BitVec 32 := 13#32
  let v906 : BitVec 32 := Scalar.muli v1 c13_i32_561
  let c10_i32_562 : BitVec 32 := 10#32
  let v907 : BitVec 32 := Scalar.addi v906 c10_i32_562
  let c0_i32_564 : BitVec 32 := 0#32
  let v909 : BitVec 1 := Scalar.cmpi .sgt v907 c0_i32_564
  let v910 : BitVec 32 := Scalar.extui v909
  let c0_i32_565 : BitVec 32 := 0#32
  let v911 : BitVec 1 := Scalar.cmpi .slt v907 c0_i32_565
  let v912 : BitVec 32 := Scalar.extui v911
  let v913 : BitVec 32 := Scalar.subi v910 v912
  let c16_i32_563 : BitVec 32 := 16#32
  let c0_i32_566 : BitVec 32 := 0#32
  let v914 : BitVec 1 := Scalar.cmpi .sgt c16_i32_563 c0_i32_566
  let v915 : BitVec 32 := Scalar.extui v914
  let c0_i32_567 : BitVec 32 := 0#32
  let v916 : BitVec 1 := Scalar.cmpi .slt c16_i32_563 c0_i32_567
  let v917 : BitVec 32 := Scalar.extui v916
  let v918 : BitVec 32 := Scalar.subi v915 v917
  let v919 : BitVec 1 := Scalar.cmpi .ne v913 v918
  let v920 : BitVec 32 := Scalar.remsi v907 c16_i32_563
  let c0_i32_568 : BitVec 32 := 0#32
  let v921 : BitVec 1 := Scalar.cmpi .ne v920 c0_i32_568
  let v922 : BitVec 1 := Scalar.andi v919 v921
  let v908 : BitVec 32 := Scalar.divsi v907 c16_i32_563
  let c1_i32_569 : BitVec 32 := 1#32
  let v923 : BitVec 32 := Scalar.subi v908 c1_i32_569
  let v924 : BitVec 32 := Scalar.select v922 v923 v908
  let c0_i32_722_r10 : BitVec 32 := 0#32
  ![v924.toNat, 0]
@[reducible] def k0_t41_loop : Scf.Loop 32 :=
  let c0_i32_576 : BitVec 32 := 0#32
  let c256_i32_577 : BitVec 32 := 256#32
  let v938 : BitVec 32 := Scalar.addi c0_i32_576 c256_i32_577
  let c1_i32_578 : BitVec 32 := 1#32
  ⟨c0_i32_576, v938, c1_i32_578⟩
def k0_off97 (k0_t41 : Fin k0_t41_loop.trips) : Fin 1 → Nat :=
  let c0_i32_726 : BitVec 32 := 0#32
  let c0_i32_723 : BitVec 32 := 0#32
  let c0_i32_576 : BitVec 32 := 0#32
  let c1_i32_578 : BitVec 32 := 1#32
  let arg12 : BitVec 32 := Scf.iv c0_i32_576 c1_i32_578 k0_t41
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk41 (v1162 : IVec S16 32) : Prop :=
  (∀ a x, ((![v1162] : Fin 1 → IVec S16 32) a x).toNat < S100000.size a)
theorem k0_idx41_inb : ∀ (v1162 : IVec S16 32) (k0_hw41 : k0_chk41 v1162), ∀ a x, ((![v1162] : Fin 1 → IVec S16 32) a x).toNat < S100000.size a := fun v1162 k0_hw41 => k0_hw41
def k0_off98 (k0_t41 : Fin k0_t41_loop.trips) : Fin 1 → Nat :=
  let c0_i32_723 : BitVec 32 := 0#32
  let c0_i32_576 : BitVec 32 := 0#32
  let c1_i32_578 : BitVec 32 := 1#32
  let arg12 : BitVec 32 := Scf.iv c0_i32_576 c1_i32_578 k0_t41
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t42_loop : Scf.Loop 32 :=
  let c0_i32_584 : BitVec 32 := 0#32
  let c256_i32_585 : BitVec 32 := 256#32
  let v947 : BitVec 32 := Scalar.addi c0_i32_584 c256_i32_585
  let c1_i32_586 : BitVec 32 := 1#32
  ⟨c0_i32_584, v947, c1_i32_586⟩
def k0_off99 (k0_t42 : Fin k0_t42_loop.trips) : Fin 1 → Nat :=
  let c4096_i32_726 : BitVec 32 := 4096#32
  let c0_i32_723 : BitVec 32 := 0#32
  let c0_i32_584 : BitVec 32 := 0#32
  let c1_i32_586 : BitVec 32 := 1#32
  let arg12 : BitVec 32 := Scf.iv c0_i32_584 c1_i32_586 k0_t42
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk42 (v1162 : IVec S16 32) : Prop :=
  (∀ a x, ((![v1162] : Fin 1 → IVec S16 32) a x).toNat < S100000.size a)
theorem k0_idx42_inb : ∀ (v1162 : IVec S16 32) (k0_hw42 : k0_chk42 v1162), ∀ a x, ((![v1162] : Fin 1 → IVec S16 32) a x).toNat < S100000.size a := fun v1162 k0_hw42 => k0_hw42
def k0_off100 (k0_t42 : Fin k0_t42_loop.trips) : Fin 1 → Nat :=
  let c0_i32_723 : BitVec 32 := 0#32
  let c0_i32_584 : BitVec 32 := 0#32
  let c1_i32_586 : BitVec 32 := 1#32
  let arg12 : BitVec 32 := Scf.iv c0_i32_584 c1_i32_586 k0_t42
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t43_loop : Scf.Loop 32 :=
  let c0_i32_592 : BitVec 32 := 0#32
  let c256_i32_593 : BitVec 32 := 256#32
  let v956 : BitVec 32 := Scalar.addi c0_i32_592 c256_i32_593
  let c1_i32_594 : BitVec 32 := 1#32
  ⟨c0_i32_592, v956, c1_i32_594⟩
def k0_off101 (k0_t43 : Fin k0_t43_loop.trips) : Fin 1 → Nat :=
  let c8192_i32_726 : BitVec 32 := 8192#32
  let c0_i32_723 : BitVec 32 := 0#32
  let c0_i32_592 : BitVec 32 := 0#32
  let c1_i32_594 : BitVec 32 := 1#32
  let arg12 : BitVec 32 := Scf.iv c0_i32_592 c1_i32_594 k0_t43
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk43 (v1162 : IVec S16 32) : Prop :=
  (∀ a x, ((![v1162] : Fin 1 → IVec S16 32) a x).toNat < S100000.size a)
theorem k0_idx43_inb : ∀ (v1162 : IVec S16 32) (k0_hw43 : k0_chk43 v1162), ∀ a x, ((![v1162] : Fin 1 → IVec S16 32) a x).toNat < S100000.size a := fun v1162 k0_hw43 => k0_hw43
def k0_off102 (k0_t43 : Fin k0_t43_loop.trips) : Fin 1 → Nat :=
  let c0_i32_723 : BitVec 32 := 0#32
  let c0_i32_592 : BitVec 32 := 0#32
  let c1_i32_594 : BitVec 32 := 1#32
  let arg12 : BitVec 32 := Scf.iv c0_i32_592 c1_i32_594 k0_t43
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t44_loop : Scf.Loop 32 :=
  let c0_i32_600 : BitVec 32 := 0#32
  let c256_i32_601 : BitVec 32 := 256#32
  let v965 : BitVec 32 := Scalar.addi c0_i32_600 c256_i32_601
  let c1_i32_602 : BitVec 32 := 1#32
  ⟨c0_i32_600, v965, c1_i32_602⟩
def k0_off103 (k0_t44 : Fin k0_t44_loop.trips) : Fin 1 → Nat :=
  let c12288_i32_726 : BitVec 32 := 12288#32
  let c0_i32_723 : BitVec 32 := 0#32
  let c0_i32_600 : BitVec 32 := 0#32
  let c1_i32_602 : BitVec 32 := 1#32
  let arg12 : BitVec 32 := Scf.iv c0_i32_600 c1_i32_602 k0_t44
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk44 (v1162 : IVec S16 32) : Prop :=
  (∀ a x, ((![v1162] : Fin 1 → IVec S16 32) a x).toNat < S100000.size a)
theorem k0_idx44_inb : ∀ (v1162 : IVec S16 32) (k0_hw44 : k0_chk44 v1162), ∀ a x, ((![v1162] : Fin 1 → IVec S16 32) a x).toNat < S100000.size a := fun v1162 k0_hw44 => k0_hw44
def k0_off104 (k0_t44 : Fin k0_t44_loop.trips) : Fin 1 → Nat :=
  let c0_i32_723 : BitVec 32 := 0#32
  let c0_i32_600 : BitVec 32 := 0#32
  let c1_i32_602 : BitVec 32 := 1#32
  let arg12 : BitVec 32 := Scf.iv c0_i32_600 c1_i32_602 k0_t44
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_cond11 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_617 : BitVec 32 := 13#32
  let v995 : BitVec 32 := Scalar.muli v1 c13_i32_617
  let c11_i32_618 : BitVec 32 := 11#32
  let v996 : BitVec 32 := Scalar.addi v995 c11_i32_618
  let c0_i32_620 : BitVec 32 := 0#32
  let v998 : BitVec 1 := Scalar.cmpi .sgt v996 c0_i32_620
  let v999 : BitVec 32 := Scalar.extui v998
  let c0_i32_621 : BitVec 32 := 0#32
  let v1000 : BitVec 1 := Scalar.cmpi .slt v996 c0_i32_621
  let v1001 : BitVec 32 := Scalar.extui v1000
  let v1002 : BitVec 32 := Scalar.subi v999 v1001
  let c16_i32_619 : BitVec 32 := 16#32
  let c0_i32_622 : BitVec 32 := 0#32
  let v1003 : BitVec 1 := Scalar.cmpi .sgt c16_i32_619 c0_i32_622
  let v1004 : BitVec 32 := Scalar.extui v1003
  let c0_i32_623 : BitVec 32 := 0#32
  let v1005 : BitVec 1 := Scalar.cmpi .slt c16_i32_619 c0_i32_623
  let v1006 : BitVec 32 := Scalar.extui v1005
  let v1007 : BitVec 32 := Scalar.subi v1004 v1006
  let v1008 : BitVec 1 := Scalar.cmpi .ne v1002 v1007
  let v1009 : BitVec 32 := Scalar.remsi v996 c16_i32_619
  let c0_i32_624 : BitVec 32 := 0#32
  let v1010 : BitVec 1 := Scalar.cmpi .ne v1009 c0_i32_624
  let v1011 : BitVec 1 := Scalar.andi v1008 v1010
  let v997 : BitVec 32 := Scalar.divsi v996 c16_i32_619
  let c1_i32_625 : BitVec 32 := 1#32
  let v1012 : BitVec 32 := Scalar.subi v997 c1_i32_625
  let v1013 : BitVec 32 := Scalar.select v1011 v1012 v997
  let c13_i32_561 : BitVec 32 := 13#32
  let v906 : BitVec 32 := Scalar.muli v1 c13_i32_561
  let c10_i32_562 : BitVec 32 := 10#32
  let v907 : BitVec 32 := Scalar.addi v906 c10_i32_562
  let c0_i32_564 : BitVec 32 := 0#32
  let v909 : BitVec 1 := Scalar.cmpi .sgt v907 c0_i32_564
  let v910 : BitVec 32 := Scalar.extui v909
  let c0_i32_565 : BitVec 32 := 0#32
  let v911 : BitVec 1 := Scalar.cmpi .slt v907 c0_i32_565
  let v912 : BitVec 32 := Scalar.extui v911
  let v913 : BitVec 32 := Scalar.subi v910 v912
  let c16_i32_563 : BitVec 32 := 16#32
  let c0_i32_566 : BitVec 32 := 0#32
  let v914 : BitVec 1 := Scalar.cmpi .sgt c16_i32_563 c0_i32_566
  let v915 : BitVec 32 := Scalar.extui v914
  let c0_i32_567 : BitVec 32 := 0#32
  let v916 : BitVec 1 := Scalar.cmpi .slt c16_i32_563 c0_i32_567
  let v917 : BitVec 32 := Scalar.extui v916
  let v918 : BitVec 32 := Scalar.subi v915 v917
  let v919 : BitVec 1 := Scalar.cmpi .ne v913 v918
  let v920 : BitVec 32 := Scalar.remsi v907 c16_i32_563
  let c0_i32_568 : BitVec 32 := 0#32
  let v921 : BitVec 1 := Scalar.cmpi .ne v920 c0_i32_568
  let v922 : BitVec 1 := Scalar.andi v919 v921
  let v908 : BitVec 32 := Scalar.divsi v907 c16_i32_563
  let c1_i32_569 : BitVec 32 := 1#32
  let v923 : BitVec 32 := Scalar.subi v908 c1_i32_569
  let v924 : BitVec 32 := Scalar.select v922 v923 v908
  let v1016 : BitVec 1 := Scalar.cmpi .ne v1013 v924
  let v1017 : BitVec 32 := Scalar.extui v1016
  let c0_i32_627 : BitVec 32 := 0#32
  let v1018 : BitVec 1 := Scalar.cmpi .ne v1017 c0_i32_627
  v1018

def k0_off105 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_617 : BitVec 32 := 13#32
  let v995 : BitVec 32 := Scalar.muli v1 c13_i32_617
  let c11_i32_618 : BitVec 32 := 11#32
  let v996 : BitVec 32 := Scalar.addi v995 c11_i32_618
  let c0_i32_620 : BitVec 32 := 0#32
  let v998 : BitVec 1 := Scalar.cmpi .sgt v996 c0_i32_620
  let v999 : BitVec 32 := Scalar.extui v998
  let c0_i32_621 : BitVec 32 := 0#32
  let v1000 : BitVec 1 := Scalar.cmpi .slt v996 c0_i32_621
  let v1001 : BitVec 32 := Scalar.extui v1000
  let v1002 : BitVec 32 := Scalar.subi v999 v1001
  let c16_i32_619 : BitVec 32 := 16#32
  let c0_i32_622 : BitVec 32 := 0#32
  let v1003 : BitVec 1 := Scalar.cmpi .sgt c16_i32_619 c0_i32_622
  let v1004 : BitVec 32 := Scalar.extui v1003
  let c0_i32_623 : BitVec 32 := 0#32
  let v1005 : BitVec 1 := Scalar.cmpi .slt c16_i32_619 c0_i32_623
  let v1006 : BitVec 32 := Scalar.extui v1005
  let v1007 : BitVec 32 := Scalar.subi v1004 v1006
  let v1008 : BitVec 1 := Scalar.cmpi .ne v1002 v1007
  let v1009 : BitVec 32 := Scalar.remsi v996 c16_i32_619
  let c0_i32_624 : BitVec 32 := 0#32
  let v1010 : BitVec 1 := Scalar.cmpi .ne v1009 c0_i32_624
  let v1011 : BitVec 1 := Scalar.andi v1008 v1010
  let v997 : BitVec 32 := Scalar.divsi v996 c16_i32_619
  let c1_i32_625 : BitVec 32 := 1#32
  let v1012 : BitVec 32 := Scalar.subi v997 c1_i32_625
  let v1013 : BitVec 32 := Scalar.select v1011 v1012 v997
  let c0_i32_722_r11 : BitVec 32 := 0#32
  ![v1013.toNat, 0]
@[reducible] def k0_t45_loop : Scf.Loop 32 :=
  let c0_i32_632 : BitVec 32 := 0#32
  let c256_i32_633 : BitVec 32 := 256#32
  let v1027 : BitVec 32 := Scalar.addi c0_i32_632 c256_i32_633
  let c1_i32_634 : BitVec 32 := 1#32
  ⟨c0_i32_632, v1027, c1_i32_634⟩
def k0_off106 (k0_t45 : Fin k0_t45_loop.trips) : Fin 1 → Nat :=
  let c0_i32_726 : BitVec 32 := 0#32
  let c0_i32_723 : BitVec 32 := 0#32
  let c0_i32_632 : BitVec 32 := 0#32
  let c1_i32_634 : BitVec 32 := 1#32
  let arg12 : BitVec 32 := Scf.iv c0_i32_632 c1_i32_634 k0_t45
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk45 (v1162 : IVec S16 32) : Prop :=
  (∀ a x, ((![v1162] : Fin 1 → IVec S16 32) a x).toNat < S100000.size a)
theorem k0_idx45_inb : ∀ (v1162 : IVec S16 32) (k0_hw45 : k0_chk45 v1162), ∀ a x, ((![v1162] : Fin 1 → IVec S16 32) a x).toNat < S100000.size a := fun v1162 k0_hw45 => k0_hw45
def k0_off107 (k0_t45 : Fin k0_t45_loop.trips) : Fin 1 → Nat :=
  let c0_i32_723 : BitVec 32 := 0#32
  let c0_i32_632 : BitVec 32 := 0#32
  let c1_i32_634 : BitVec 32 := 1#32
  let arg12 : BitVec 32 := Scf.iv c0_i32_632 c1_i32_634 k0_t45
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t46_loop : Scf.Loop 32 :=
  let c0_i32_640 : BitVec 32 := 0#32
  let c256_i32_641 : BitVec 32 := 256#32
  let v1036 : BitVec 32 := Scalar.addi c0_i32_640 c256_i32_641
  let c1_i32_642 : BitVec 32 := 1#32
  ⟨c0_i32_640, v1036, c1_i32_642⟩
def k0_off108 (k0_t46 : Fin k0_t46_loop.trips) : Fin 1 → Nat :=
  let c4096_i32_726 : BitVec 32 := 4096#32
  let c0_i32_723 : BitVec 32 := 0#32
  let c0_i32_640 : BitVec 32 := 0#32
  let c1_i32_642 : BitVec 32 := 1#32
  let arg12 : BitVec 32 := Scf.iv c0_i32_640 c1_i32_642 k0_t46
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk46 (v1162 : IVec S16 32) : Prop :=
  (∀ a x, ((![v1162] : Fin 1 → IVec S16 32) a x).toNat < S100000.size a)
theorem k0_idx46_inb : ∀ (v1162 : IVec S16 32) (k0_hw46 : k0_chk46 v1162), ∀ a x, ((![v1162] : Fin 1 → IVec S16 32) a x).toNat < S100000.size a := fun v1162 k0_hw46 => k0_hw46
def k0_off109 (k0_t46 : Fin k0_t46_loop.trips) : Fin 1 → Nat :=
  let c0_i32_723 : BitVec 32 := 0#32
  let c0_i32_640 : BitVec 32 := 0#32
  let c1_i32_642 : BitVec 32 := 1#32
  let arg12 : BitVec 32 := Scf.iv c0_i32_640 c1_i32_642 k0_t46
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t47_loop : Scf.Loop 32 :=
  let c0_i32_648 : BitVec 32 := 0#32
  let c256_i32_649 : BitVec 32 := 256#32
  let v1045 : BitVec 32 := Scalar.addi c0_i32_648 c256_i32_649
  let c1_i32_650 : BitVec 32 := 1#32
  ⟨c0_i32_648, v1045, c1_i32_650⟩
def k0_off110 (k0_t47 : Fin k0_t47_loop.trips) : Fin 1 → Nat :=
  let c8192_i32_726 : BitVec 32 := 8192#32
  let c0_i32_723 : BitVec 32 := 0#32
  let c0_i32_648 : BitVec 32 := 0#32
  let c1_i32_650 : BitVec 32 := 1#32
  let arg12 : BitVec 32 := Scf.iv c0_i32_648 c1_i32_650 k0_t47
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk47 (v1162 : IVec S16 32) : Prop :=
  (∀ a x, ((![v1162] : Fin 1 → IVec S16 32) a x).toNat < S100000.size a)
theorem k0_idx47_inb : ∀ (v1162 : IVec S16 32) (k0_hw47 : k0_chk47 v1162), ∀ a x, ((![v1162] : Fin 1 → IVec S16 32) a x).toNat < S100000.size a := fun v1162 k0_hw47 => k0_hw47
def k0_off111 (k0_t47 : Fin k0_t47_loop.trips) : Fin 1 → Nat :=
  let c0_i32_723 : BitVec 32 := 0#32
  let c0_i32_648 : BitVec 32 := 0#32
  let c1_i32_650 : BitVec 32 := 1#32
  let arg12 : BitVec 32 := Scf.iv c0_i32_648 c1_i32_650 k0_t47
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t48_loop : Scf.Loop 32 :=
  let c0_i32_656 : BitVec 32 := 0#32
  let c256_i32_657 : BitVec 32 := 256#32
  let v1054 : BitVec 32 := Scalar.addi c0_i32_656 c256_i32_657
  let c1_i32_658 : BitVec 32 := 1#32
  ⟨c0_i32_656, v1054, c1_i32_658⟩
def k0_off112 (k0_t48 : Fin k0_t48_loop.trips) : Fin 1 → Nat :=
  let c12288_i32_726 : BitVec 32 := 12288#32
  let c0_i32_723 : BitVec 32 := 0#32
  let c0_i32_656 : BitVec 32 := 0#32
  let c1_i32_658 : BitVec 32 := 1#32
  let arg12 : BitVec 32 := Scf.iv c0_i32_656 c1_i32_658 k0_t48
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk48 (v1162 : IVec S16 32) : Prop :=
  (∀ a x, ((![v1162] : Fin 1 → IVec S16 32) a x).toNat < S100000.size a)
theorem k0_idx48_inb : ∀ (v1162 : IVec S16 32) (k0_hw48 : k0_chk48 v1162), ∀ a x, ((![v1162] : Fin 1 → IVec S16 32) a x).toNat < S100000.size a := fun v1162 k0_hw48 => k0_hw48
def k0_off113 (k0_t48 : Fin k0_t48_loop.trips) : Fin 1 → Nat :=
  let c0_i32_723 : BitVec 32 := 0#32
  let c0_i32_656 : BitVec 32 := 0#32
  let c1_i32_658 : BitVec 32 := 1#32
  let arg12 : BitVec 32 := Scf.iv c0_i32_656 c1_i32_658 k0_t48
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
def k0_cond12 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_673 : BitVec 32 := 13#32
  let v1084 : BitVec 32 := Scalar.muli v1 c13_i32_673
  let c12_i32_674 : BitVec 32 := 12#32
  let v1085 : BitVec 32 := Scalar.addi v1084 c12_i32_674
  let c0_i32_676 : BitVec 32 := 0#32
  let v1087 : BitVec 1 := Scalar.cmpi .sgt v1085 c0_i32_676
  let v1088 : BitVec 32 := Scalar.extui v1087
  let c0_i32_677 : BitVec 32 := 0#32
  let v1089 : BitVec 1 := Scalar.cmpi .slt v1085 c0_i32_677
  let v1090 : BitVec 32 := Scalar.extui v1089
  let v1091 : BitVec 32 := Scalar.subi v1088 v1090
  let c16_i32_675 : BitVec 32 := 16#32
  let c0_i32_678 : BitVec 32 := 0#32
  let v1092 : BitVec 1 := Scalar.cmpi .sgt c16_i32_675 c0_i32_678
  let v1093 : BitVec 32 := Scalar.extui v1092
  let c0_i32_679 : BitVec 32 := 0#32
  let v1094 : BitVec 1 := Scalar.cmpi .slt c16_i32_675 c0_i32_679
  let v1095 : BitVec 32 := Scalar.extui v1094
  let v1096 : BitVec 32 := Scalar.subi v1093 v1095
  let v1097 : BitVec 1 := Scalar.cmpi .ne v1091 v1096
  let v1098 : BitVec 32 := Scalar.remsi v1085 c16_i32_675
  let c0_i32_680 : BitVec 32 := 0#32
  let v1099 : BitVec 1 := Scalar.cmpi .ne v1098 c0_i32_680
  let v1100 : BitVec 1 := Scalar.andi v1097 v1099
  let v1086 : BitVec 32 := Scalar.divsi v1085 c16_i32_675
  let c1_i32_681 : BitVec 32 := 1#32
  let v1101 : BitVec 32 := Scalar.subi v1086 c1_i32_681
  let v1102 : BitVec 32 := Scalar.select v1100 v1101 v1086
  let c13_i32_617 : BitVec 32 := 13#32
  let v995 : BitVec 32 := Scalar.muli v1 c13_i32_617
  let c11_i32_618 : BitVec 32 := 11#32
  let v996 : BitVec 32 := Scalar.addi v995 c11_i32_618
  let c0_i32_620 : BitVec 32 := 0#32
  let v998 : BitVec 1 := Scalar.cmpi .sgt v996 c0_i32_620
  let v999 : BitVec 32 := Scalar.extui v998
  let c0_i32_621 : BitVec 32 := 0#32
  let v1000 : BitVec 1 := Scalar.cmpi .slt v996 c0_i32_621
  let v1001 : BitVec 32 := Scalar.extui v1000
  let v1002 : BitVec 32 := Scalar.subi v999 v1001
  let c16_i32_619 : BitVec 32 := 16#32
  let c0_i32_622 : BitVec 32 := 0#32
  let v1003 : BitVec 1 := Scalar.cmpi .sgt c16_i32_619 c0_i32_622
  let v1004 : BitVec 32 := Scalar.extui v1003
  let c0_i32_623 : BitVec 32 := 0#32
  let v1005 : BitVec 1 := Scalar.cmpi .slt c16_i32_619 c0_i32_623
  let v1006 : BitVec 32 := Scalar.extui v1005
  let v1007 : BitVec 32 := Scalar.subi v1004 v1006
  let v1008 : BitVec 1 := Scalar.cmpi .ne v1002 v1007
  let v1009 : BitVec 32 := Scalar.remsi v996 c16_i32_619
  let c0_i32_624 : BitVec 32 := 0#32
  let v1010 : BitVec 1 := Scalar.cmpi .ne v1009 c0_i32_624
  let v1011 : BitVec 1 := Scalar.andi v1008 v1010
  let v997 : BitVec 32 := Scalar.divsi v996 c16_i32_619
  let c1_i32_625 : BitVec 32 := 1#32
  let v1012 : BitVec 32 := Scalar.subi v997 c1_i32_625
  let v1013 : BitVec 32 := Scalar.select v1011 v1012 v997
  let v1105 : BitVec 1 := Scalar.cmpi .ne v1102 v1013
  let v1106 : BitVec 32 := Scalar.extui v1105
  let c0_i32_683 : BitVec 32 := 0#32
  let v1107 : BitVec 1 := Scalar.cmpi .ne v1106 c0_i32_683
  v1107

def k0_off114 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13_i32_673 : BitVec 32 := 13#32
  let v1084 : BitVec 32 := Scalar.muli v1 c13_i32_673
  let c12_i32_674 : BitVec 32 := 12#32
  let v1085 : BitVec 32 := Scalar.addi v1084 c12_i32_674
  let c0_i32_676 : BitVec 32 := 0#32
  let v1087 : BitVec 1 := Scalar.cmpi .sgt v1085 c0_i32_676
  let v1088 : BitVec 32 := Scalar.extui v1087
  let c0_i32_677 : BitVec 32 := 0#32
  let v1089 : BitVec 1 := Scalar.cmpi .slt v1085 c0_i32_677
  let v1090 : BitVec 32 := Scalar.extui v1089
  let v1091 : BitVec 32 := Scalar.subi v1088 v1090
  let c16_i32_675 : BitVec 32 := 16#32
  let c0_i32_678 : BitVec 32 := 0#32
  let v1092 : BitVec 1 := Scalar.cmpi .sgt c16_i32_675 c0_i32_678
  let v1093 : BitVec 32 := Scalar.extui v1092
  let c0_i32_679 : BitVec 32 := 0#32
  let v1094 : BitVec 1 := Scalar.cmpi .slt c16_i32_675 c0_i32_679
  let v1095 : BitVec 32 := Scalar.extui v1094
  let v1096 : BitVec 32 := Scalar.subi v1093 v1095
  let v1097 : BitVec 1 := Scalar.cmpi .ne v1091 v1096
  let v1098 : BitVec 32 := Scalar.remsi v1085 c16_i32_675
  let c0_i32_680 : BitVec 32 := 0#32
  let v1099 : BitVec 1 := Scalar.cmpi .ne v1098 c0_i32_680
  let v1100 : BitVec 1 := Scalar.andi v1097 v1099
  let v1086 : BitVec 32 := Scalar.divsi v1085 c16_i32_675
  let c1_i32_681 : BitVec 32 := 1#32
  let v1101 : BitVec 32 := Scalar.subi v1086 c1_i32_681
  let v1102 : BitVec 32 := Scalar.select v1100 v1101 v1086
  let c0_i32_722_r12 : BitVec 32 := 0#32
  ![v1102.toNat, 0]
@[reducible] def k0_t49_loop : Scf.Loop 32 :=
  let c0_i32_688 : BitVec 32 := 0#32
  let c256_i32_689 : BitVec 32 := 256#32
  let v1116 : BitVec 32 := Scalar.addi c0_i32_688 c256_i32_689
  let c1_i32_690 : BitVec 32 := 1#32
  ⟨c0_i32_688, v1116, c1_i32_690⟩
def k0_off115 (k0_t49 : Fin k0_t49_loop.trips) : Fin 1 → Nat :=
  let c0_i32_726 : BitVec 32 := 0#32
  let c0_i32_723 : BitVec 32 := 0#32
  let c0_i32_688 : BitVec 32 := 0#32
  let c1_i32_690 : BitVec 32 := 1#32
  let arg12 : BitVec 32 := Scf.iv c0_i32_688 c1_i32_690 k0_t49
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c0_i32_726 v1159
  let v1161 : Index := Scalar.indexCast v1160
  ![v1161.toNat]

def k0_chk49 (v1162 : IVec S16 32) : Prop :=
  (∀ a x, ((![v1162] : Fin 1 → IVec S16 32) a x).toNat < S100000.size a)
theorem k0_idx49_inb : ∀ (v1162 : IVec S16 32) (k0_hw49 : k0_chk49 v1162), ∀ a x, ((![v1162] : Fin 1 → IVec S16 32) a x).toNat < S100000.size a := fun v1162 k0_hw49 => k0_hw49
def k0_off116 (k0_t49 : Fin k0_t49_loop.trips) : Fin 1 → Nat :=
  let c0_i32_723 : BitVec 32 := 0#32
  let c0_i32_688 : BitVec 32 := 0#32
  let c1_i32_690 : BitVec 32 := 1#32
  let arg12 : BitVec 32 := Scf.iv c0_i32_688 c1_i32_690 k0_t49
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t50_loop : Scf.Loop 32 :=
  let c0_i32_696 : BitVec 32 := 0#32
  let c256_i32_697 : BitVec 32 := 256#32
  let v1125 : BitVec 32 := Scalar.addi c0_i32_696 c256_i32_697
  let c1_i32_698 : BitVec 32 := 1#32
  ⟨c0_i32_696, v1125, c1_i32_698⟩
def k0_off117 (k0_t50 : Fin k0_t50_loop.trips) : Fin 1 → Nat :=
  let c4096_i32_726 : BitVec 32 := 4096#32
  let c0_i32_723 : BitVec 32 := 0#32
  let c0_i32_696 : BitVec 32 := 0#32
  let c1_i32_698 : BitVec 32 := 1#32
  let arg12 : BitVec 32 := Scf.iv c0_i32_696 c1_i32_698 k0_t50
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c4096_i32_726 v1159
  let v1161 : Index := Scalar.indexCast v1160
  ![v1161.toNat]

def k0_chk50 (v1162 : IVec S16 32) : Prop :=
  (∀ a x, ((![v1162] : Fin 1 → IVec S16 32) a x).toNat < S100000.size a)
theorem k0_idx50_inb : ∀ (v1162 : IVec S16 32) (k0_hw50 : k0_chk50 v1162), ∀ a x, ((![v1162] : Fin 1 → IVec S16 32) a x).toNat < S100000.size a := fun v1162 k0_hw50 => k0_hw50
def k0_off118 (k0_t50 : Fin k0_t50_loop.trips) : Fin 1 → Nat :=
  let c0_i32_723 : BitVec 32 := 0#32
  let c0_i32_696 : BitVec 32 := 0#32
  let c1_i32_698 : BitVec 32 := 1#32
  let arg12 : BitVec 32 := Scf.iv c0_i32_696 c1_i32_698 k0_t50
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t51_loop : Scf.Loop 32 :=
  let c0_i32_704 : BitVec 32 := 0#32
  let c256_i32_705 : BitVec 32 := 256#32
  let v1134 : BitVec 32 := Scalar.addi c0_i32_704 c256_i32_705
  let c1_i32_706 : BitVec 32 := 1#32
  ⟨c0_i32_704, v1134, c1_i32_706⟩
def k0_off119 (k0_t51 : Fin k0_t51_loop.trips) : Fin 1 → Nat :=
  let c8192_i32_726 : BitVec 32 := 8192#32
  let c0_i32_723 : BitVec 32 := 0#32
  let c0_i32_704 : BitVec 32 := 0#32
  let c1_i32_706 : BitVec 32 := 1#32
  let arg12 : BitVec 32 := Scf.iv c0_i32_704 c1_i32_706 k0_t51
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c8192_i32_726 v1159
  let v1161 : Index := Scalar.indexCast v1160
  ![v1161.toNat]

def k0_chk51 (v1162 : IVec S16 32) : Prop :=
  (∀ a x, ((![v1162] : Fin 1 → IVec S16 32) a x).toNat < S100000.size a)
theorem k0_idx51_inb : ∀ (v1162 : IVec S16 32) (k0_hw51 : k0_chk51 v1162), ∀ a x, ((![v1162] : Fin 1 → IVec S16 32) a x).toNat < S100000.size a := fun v1162 k0_hw51 => k0_hw51
def k0_off120 (k0_t51 : Fin k0_t51_loop.trips) : Fin 1 → Nat :=
  let c0_i32_723 : BitVec 32 := 0#32
  let c0_i32_704 : BitVec 32 := 0#32
  let c1_i32_706 : BitVec 32 := 1#32
  let arg12 : BitVec 32 := Scf.iv c0_i32_704 c1_i32_706 k0_t51
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
@[reducible] def k0_t52_loop : Scf.Loop 32 :=
  let c0_i32_712 : BitVec 32 := 0#32
  let c256_i32_713 : BitVec 32 := 256#32
  let v1143 : BitVec 32 := Scalar.addi c0_i32_712 c256_i32_713
  let c1_i32_714 : BitVec 32 := 1#32
  ⟨c0_i32_712, v1143, c1_i32_714⟩
def k0_off121 (k0_t52 : Fin k0_t52_loop.trips) : Fin 1 → Nat :=
  let c12288_i32_726 : BitVec 32 := 12288#32
  let c0_i32_723 : BitVec 32 := 0#32
  let c0_i32_712 : BitVec 32 := 0#32
  let c1_i32_714 : BitVec 32 := 1#32
  let arg12 : BitVec 32 := Scf.iv c0_i32_712 c1_i32_714 k0_t52
  let c1_i32_722 : BitVec 32 := 1#32
  let v1156 : BitVec 32 := Scalar.muli arg12 c1_i32_722
  let v1157 : BitVec 32 := Scalar.addi c0_i32_723 v1156
  let c16_i32_725 : BitVec 32 := 16#32
  let v1159 : BitVec 32 := Scalar.muli v1157 c16_i32_725
  let v1160 : BitVec 32 := Scalar.addi c12288_i32_726 v1159
  let v1161 : Index := Scalar.indexCast v1160
  ![v1161.toNat]

def k0_chk52 (v1162 : IVec S16 32) : Prop :=
  (∀ a x, ((![v1162] : Fin 1 → IVec S16 32) a x).toNat < S100000.size a)
theorem k0_idx52_inb : ∀ (v1162 : IVec S16 32) (k0_hw52 : k0_chk52 v1162), ∀ a x, ((![v1162] : Fin 1 → IVec S16 32) a x).toNat < S100000.size a := fun v1162 k0_hw52 => k0_hw52
def k0_off122 (k0_t52 : Fin k0_t52_loop.trips) : Fin 1 → Nat :=
  let c0_i32_723 : BitVec 32 := 0#32
  let c0_i32_712 : BitVec 32 := 0#32
  let c1_i32_714 : BitVec 32 := 1#32
  let arg12 : BitVec 32 := Scf.iv c0_i32_712 c1_i32_714 k0_t52
  let c1_i32_722 : BitVec 32 := 1#32
  let v1156 : BitVec 32 := Scalar.muli arg12 c1_i32_722
  let v1157 : BitVec 32 := Scalar.addi c0_i32_723 v1156
  let c16_i32_724 : BitVec 32 := 16#32
  let v1158 : BitVec 32 := Scalar.muli v1157 c16_i32_724
  let v1164 : Index := Scalar.indexCast v1158
  ![v1164.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S26x100000x16 : Shape := ⟨3, ![26, 100000, 16]⟩
abbrev S26x16384 : Shape := ⟨2, ![26, 16384]⟩
abbrev S26x16384x1 : Shape := ⟨3, ![26, 16384, 1]⟩
abbrev S_ : Shape := ⟨0, ![]⟩
abbrev S1 : Shape := ⟨1, ![1]⟩
abbrev S1x1x1 : Shape := ⟨3, ![1, 1, 1]⟩
abbrev S26x16384x16 : Shape := ⟨3, ![26, 16384, 16]⟩
abbrev S16384x26x16 : Shape := ⟨3, ![16384, 26, 16]⟩

abbrev nBuf : Space → Nat
  | .hbm => 27
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S26x100000x16, .f32⟩
  | .hbm, ⟨2, _⟩ => ⟨S26x16384, .i32⟩
  | .hbm, ⟨3, _⟩ => ⟨S26x16384x1, .i32⟩
  | .hbm, ⟨4, _⟩ => ⟨S_, .i32⟩
  | .hbm, ⟨5, _⟩ => ⟨S26x16384x1, .i32⟩
  | .hbm, ⟨6, _⟩ => ⟨S26x16384x1, .i1⟩
  | .hbm, ⟨7, _⟩ => ⟨S_, .i32⟩
  | .hbm, ⟨8, _⟩ => ⟨S26x16384x1, .i32⟩
  | .hbm, ⟨9, _⟩ => ⟨S26x16384x1, .i32⟩
  | .hbm, ⟨10, _⟩ => ⟨S26x16384x1, .i32⟩
  | .hbm, ⟨11, _⟩ => ⟨S1, .i32⟩
  | .hbm, ⟨12, _⟩ => ⟨S_, .i32⟩
  | .hbm, ⟨13, _⟩ => ⟨S26x16384x1, .i32⟩
  | .hbm, ⟨14, _⟩ => ⟨S26x16384x1, .i1⟩
  | .hbm, ⟨15, _⟩ => ⟨S1x1x1, .i32⟩
  | .hbm, ⟨16, _⟩ => ⟨S26x16384x1, .i32⟩
  | .hbm, ⟨17, _⟩ => ⟨S26x16384x1, .i1⟩
  | .hbm, ⟨18, _⟩ => ⟨S26x16384x1, .i1⟩
  | .hbm, ⟨19, _⟩ => ⟨S_, .i1⟩
  | .hbm, ⟨20, _⟩ => ⟨S26x16384, .i1⟩
  | .hbm, ⟨21, _⟩ => ⟨S26x16384x16, .f32⟩
  | .hbm, ⟨22, _⟩ => ⟨S26x16384x16, .i1⟩
  | .hbm, ⟨23, _⟩ => ⟨S_, .f32⟩
  | .hbm, ⟨24, _⟩ => ⟨S26x16384x16, .f32⟩
  | .hbm, ⟨25, _⟩ => ⟨S26x16384x16, .f32⟩
  | .hbm, ⟨26, _⟩ => ⟨S16384x26x16, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_c_2 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v2 : Ref sig .tc := ⟨.hbm, 25, rfl⟩
abbrev main_v3 : Ref sig .tc := ⟨.hbm, 26, rfl⟩

abbrev nD : Nat := 1
abbrev τ : Topo := Topo.v7x

variable {F : FTy → Type} [FloatOps F]
-- ==== Proof.Prog.lean ====
/-
  The kernel's body as a list of steps. The printed body is unrolled over a tile's 13 slabs; here it is shown equal to a
  short program: the list `schedule` of steps (fetch a row, wait for it, fetch labels, gather a quarter, send a quarter,
  wait for a quarter) run in order, each step's offsets computed by the same word arithmetic at any slab number.
-/
module

public import proofs.«01_k».proof.Defs
public import proofs.«01_k».proof.Proof.Gen.KernelIdeal

@[expose] public section

noncomputable section

namespace Cert.Proof.Slab

open Cert.KernelIdeal Cert.KernelIdeal.Gen
open Idealize.ShloMosaic Idealize.SL.Sem

variable {F : FTy → Type} [FloatOps F]

/-! ## The kernel's arrays -/

abbrev tblM : Memref sig .scVector .hbm S26x16x100000 .f32 := Memref.whole main_v0_scv
abbrev idxM : Memref sig .scVector .hbm S26x16384 .i32 := Memref.whole main_v1_scv
abbrev outM : Memref sig .scVector .hbm S26x16x16384 .f32 := Memref.whole main_v2_scv
abbrev rowM : Memref sig .scVector .vmem S100000 .f32 := Memref.whole cc0_scratch0
abbrev labM : Memref sig .scVector .vmem S16384 .i32 := Memref.whole cc0_scratch1

/-- The staging buffer of a quarter: the first for the even quarters, the second for the odd ones. -/
def stgM : Fin 2 → Memref sig .scVector .vmem S4096 .f32
  | 0 => Memref.whole cc0_scratch2
  | 1 => Memref.whole cc0_scratch3

theorem stgM_whole : ∀ b, (stgM b).IsWhole
  | 0 => Memref.isWhole_whole _
  | 1 => Memref.isWhole_whole _

/-- The staging buffer's semaphore. -/
def stgSem : Fin 2 → DmaSem sig
  | 0 => cc0_scratch5.sem
  | 1 => cc0_scratch6.sem

abbrev rowSem : DmaSem sig := cc0_scratch4.sem

/-- The semaphore of slab `n`'s fetch of labels. -/
def labSem : Fin 13 → DmaSem sig
  | 0 => cc0_scoped0.sem
  | 1 => cc0_scoped1.sem
  | 2 => cc0_scoped2.sem
  | 3 => cc0_scoped3.sem
  | 4 => cc0_scoped4.sem
  | 5 => cc0_scoped5.sem
  | 6 => cc0_scoped6.sem
  | 7 => cc0_scoped7.sem
  | 8 => cc0_scoped8.sem
  | 9 => cc0_scoped9.sem
  | 10 => cc0_scoped10.sem
  | 11 => cc0_scoped11.sem
  | 12 => cc0_scoped12.sem

/-- Quarter `q`'s staging buffer. -/
def half : Fin 4 → Fin 2
  | 0 => 0
  | 1 => 1
  | 2 => 0
  | 3 => 1

/-! ## The word arithmetic -/

/-- The number of a tile's slab `c`: thirteen slabs a tile, tiles numbered subcore-major. -/
def slabW (i : grid0.Coords) (c : BitVec 32) : BitVec 32 :=
  Scalar.addi (Scalar.muli (Scalar.addi (Scalar.muli (BitVec.ofNat 32 (i 1).val) 2#32) (BitVec.ofNat 32 (i 0).val)) 13#32) c

/-- A word's sign, as the floor division computes it. -/
def signW (v : BitVec 32) : BitVec 32 :=
  Scalar.subi (Scalar.extui (Scalar.cmpi .sgt v 0#32)) (Scalar.extui (Scalar.cmpi .slt v 0#32))

/-- The table a slab belongs to: its number divided by 16, rounding down. -/
def tableW (i : grid0.Coords) (c : BitVec 32) : BitVec 32 :=
  Scalar.select
    (Scalar.andi (Scalar.cmpi .ne (signW (slabW i c)) (signW 16#32)) (Scalar.cmpi .ne (Scalar.remsi (slabW i c) 16#32) 0#32))
    (Scalar.subi (Scalar.divsi (slabW i c) 16#32) 1#32) (Scalar.divsi (slabW i c) 16#32)

/-- The slab's row within its table. -/
def rowW (i : grid0.Coords) (c : BitVec 32) : BitVec 32 := Scalar.subi (slabW i c) (Scalar.muli (tableW i c) 16#32)

/-- Whether a slab's table differs from its predecessor's, as the kernel tests it. -/
def freshW (i : grid0.Coords) (n : Fin 13) : BitVec 1 :=
  Scalar.cmpi .ne (Scalar.extui (Scalar.cmpi .ne (tableW i (BitVec.ofNat 32 n.val)) (tableW i (BitVec.ofNat 32 (n.val - 1)))) : BitVec 32) 0#32

abbrev qLoop : Scf.Loop 32 := ⟨0#32, Scalar.addi 0#32 256#32, 1#32⟩

/-- Sixteen times the trip number. -/
def laneW (k : Fin qLoop.trips) : BitVec 32 :=
  Scalar.muli (Scalar.addi 0#32 (Scalar.muli (Scf.iv 0#32 1#32 k) 1#32)) 16#32

def rowOff (i : grid0.Coords) (n : Fin 13) : Fin 3 → Nat :=
  ![(tableW i (BitVec.ofNat 32 n.val)).toNat, (rowW i (BitVec.ofNat 32 n.val)).toNat, 0]
def labOff (i : grid0.Coords) (n : Fin 13) : Fin 2 → Nat := ![(tableW i (BitVec.ofNat 32 n.val)).toNat, 0]
def outOff (i : grid0.Coords) (n : Fin 13) (q : Fin 4) : Fin 3 → Nat :=
  ![(tableW i (BitVec.ofNat 32 n.val)).toNat, (rowW i (BitVec.ofNat 32 n.val)).toNat, 4096 * q.val]
def laneOff (k : Fin qLoop.trips) : Fin 1 → Nat := ![(Scalar.indexCast (laneW k)).toNat]
def pickOff (q : Fin 4) (k : Fin qLoop.trips) : Fin 1 → Nat :=
  ![(Scalar.indexCast (Scalar.addi (BitVec.ofNat 32 (4096 * q.val)) (laneW k))).toNat]

/-! ### In closed form -/

/-- A tile's number, `2 * subcore + core`. -/
def tileNo (i : grid0.Coords) : Nat := 2 * (i 1).val + (i 0).val
/-- The table of a tile's slab `n`. -/
def tab (i : grid0.Coords) (n : Fin 13) : Nat := (13 * tileNo i + n.val) / 16
/-- The row of a tile's slab `n` within its table. -/
def row (i : grid0.Coords) (n : Fin 13) : Nat := (13 * tileNo i + n.val) % 16

theorem tileNo_lt (i : grid0.Coords) : tileNo i < 32 := by
  have h0 : (i 0).val < 2 := (i 0).isLt
  have h1 : (i 1).val < 16 := (i 1).isLt
  simp only [tileNo]; omega

theorem tab_lt (i : grid0.Coords) (n : Fin 13) : tab i n < 26 := by
  have h := tileNo_lt i
  have h' := n.isLt
  simp only [tab]; omega

theorem row_lt (i : grid0.Coords) (n : Fin 13) : row i n < 16 := Nat.mod_lt _ (by decide)

theorem tableW_toNat : ∀ (i : grid0.Coords) (n : Fin 13), (tableW i (BitVec.ofNat 32 n.val)).toNat = tab i n := by decide +kernel
theorem rowW_toNat : ∀ (i : grid0.Coords) (n : Fin 13), (rowW i (BitVec.ofNat 32 n.val)).toNat = row i n := by decide +kernel
theorem freshW_iff : ∀ (i : grid0.Coords) (n : Fin 13),
    freshW i n = 1#1 ∨ ∀ k : Fin 13, k.val = n.val - 1 → tab i n = tab i k := by decide +kernel

theorem rowOff_eq (i : grid0.Coords) (n : Fin 13) : rowOff i n = ![tab i n, row i n, 0] := by
  simp only [rowOff, tableW_toNat, rowW_toNat]
theorem labOff_eq (i : grid0.Coords) (n : Fin 13) : labOff i n = ![tab i n, 0] := by
  simp only [labOff, tableW_toNat]
theorem outOff_eq (i : grid0.Coords) (n : Fin 13) (q : Fin 4) : outOff i n q = ![tab i n, row i n, 4096 * q.val] := by
  simp only [outOff, tableW_toNat, rowW_toNat]

theorem qLoop_ok : qLoop.OK := k0_t1_ok
theorem qLoop_trips : qLoop.trips = 256 := by decide
theorem lane_eq : ∀ k : Fin qLoop.trips, (Scalar.indexCast (laneW k)).toNat = 16 * k.val := by decide +kernel
theorem pick_eq : ∀ (q : Fin 4) (k : Fin qLoop.trips),
    (Scalar.indexCast (Scalar.addi (BitVec.ofNat 32 (4096 * q.val)) (laneW k))).toNat = 4096 * q.val + 16 * k.val := by decide +kernel
theorem laneOff_eq (k : Fin qLoop.trips) : laneOff k = ![16 * k.val] := by simp only [laneOff, lane_eq]
theorem pickOff_eq (q : Fin 4) (k : Fin qLoop.trips) : pickOff q k = ![4096 * q.val + 16 * k.val] := by
  simp only [pickOff, pick_eq]

theorem trip_lt (k : Fin qLoop.trips) : k.val < 256 := lt_of_lt_of_eq k.isLt qLoop_trips

theorem rowOff_inb (i : grid0.Coords) (n : Fin 13) : ∀ a, rowOff i n a + S1x1x100000.size a ≤ S26x16x100000.size a := by
  have := tab_lt i n; have := row_lt i n
  rw [rowOff_eq, Fin.forall_fin_succ, Fin.forall_fin_succ, Fin.forall_fin_succ]
  exact ⟨show tab i n + 1 ≤ 26 by omega, show row i n + 1 ≤ 16 by omega, show 0 + 100000 ≤ 100000 by omega, fun a => a.elim0⟩
theorem labOff_inb (i : grid0.Coords) (n : Fin 13) : ∀ a, labOff i n a + S1x16384.size a ≤ S26x16384.size a := by
  have := tab_lt i n
  rw [labOff_eq, Fin.forall_fin_succ, Fin.forall_fin_succ]
  exact ⟨show tab i n + 1 ≤ 26 by omega, show 0 + 16384 ≤ 16384 by omega, fun a => a.elim0⟩
theorem outOff_inb (i : grid0.Coords) (n : Fin 13) (q : Fin 4) : ∀ a, outOff i n q a + S1x1x4096.size a ≤ S26x16x16384.size a := by
  have := tab_lt i n; have := row_lt i n; have := q.isLt
  rw [outOff_eq, Fin.forall_fin_succ, Fin.forall_fin_succ, Fin.forall_fin_succ]
  exact ⟨show tab i n + 1 ≤ 26 by omega, show row i n + 1 ≤ 16 by omega, show 4096 * q.val + 4096 ≤ 16384 by omega, fun a => a.elim0⟩
theorem laneOff_inb (k : Fin qLoop.trips) : ∀ a, laneOff k a + S16.size a ≤ S4096.size a := by
  have := trip_lt k
  rw [laneOff_eq, Fin.forall_fin_succ]
  exact ⟨show 16 * k.val + 16 ≤ 4096 by omega, fun a => a.elim0⟩
theorem pickOff_inb (q : Fin 4) (k : Fin qLoop.trips) : ∀ a, pickOff q k a + S16.size a ≤ S16384.size a := by
  have := trip_lt k; have := q.isLt
  rw [pickOff_eq, Fin.forall_fin_succ]
  exact ⟨show 4096 * q.val + 16 * k.val + 16 ≤ 16384 by omega, fun a => a.elim0⟩

/-! ## The steps -/

/-- Row `n` of the tile: one row of one table. -/
abbrev rowS (i : grid0.Coords) (n : Fin 13) : Memref sig .scVector .hbm S100000 .f32 :=
  (tblM.slice (Rect.unit (s := S26x16x100000) (rowOff i n) S1x1x100000.size (rowOff_inb i n)) (fun _ => rfl)).squeeze S100000 squeezes_S1x1x100000_S100000
/-- The labels of slab `n`'s table. -/
abbrev labS (i : grid0.Coords) (n : Fin 13) : Memref sig .scVector .hbm S16384 .i32 :=
  (idxM.slice (Rect.unit (s := S26x16384) (labOff i n) S1x16384.size (labOff_inb i n)) (fun _ => rfl)).squeeze S16384 squeezes_S1x16384_S16384
/-- Quarter `q` of slab `n` of the result. -/
abbrev outS (i : grid0.Coords) (n : Fin 13) (q : Fin 4) : Memref sig .scVector .hbm S4096 .f32 :=
  (outM.slice (Rect.unit (s := S26x16x16384) (outOff i n q) S1x1x4096.size (outOff_inb i n q)) (fun _ => rfl)).squeeze S4096 squeezes_S1x1x4096_S4096

variable (F) in
abbrev TProg (i : grid0.Coords) (α : Type) :=
  Prog (TpuEff nD τ sig (Elt F) Λ₀ (.scVector ((i 0).castLE hcore0) ((i 1).castLE hsub0))) α

/-- Fetch the labels of slab `n`'s table, and wait for them. -/
def fetchLabels (i : grid0.Coords) (n : Fin 13) : TProg F i PUnit := do
  Prog.lift (.enqueueDma (labS i n) (.here labM) (.dma (labSem n)) ((View.wordExact_bits rfl).reshape _ _) (Memref.isWhole_whole _).wordExact ⟨Or.inl rfl, trivial⟩)
  Prog.lift (.waitDma2 (labSem n) (labS i n) labM ((View.wordExact_bits rfl).reshape _ _) (Memref.isWhole_whole _).wordExact)

/-- One trip of a quarter's gather: sixteen labels, the row's entries they name, into the staging buffer. -/
def gatherTrip (i : grid0.Coords) (q : Fin 4) (k : Fin qLoop.trips) : TProg F i PUnit := do
  let v : Vec F S16 .i32 ← Prog.lift (.load labM (Rect.unit (s := S16384) (pickOff q k) S16.size (pickOff_inb q k)).toLoadRect (View.loadsAt_vmem h_S16))
  have hw : k0_chk1 v := (← Prog.lift (TpuEff.assume (k0_chk1 v) (k0_chk1.dec v))).down
  let w : Vec F S16 .f32 ← SparseCore.vectorLoadIdx rowM ![v] (k0_idx1_inb v hw) (View.loads_vmem h_S100000)
  let _ : Vec F S16 .f32 ← Prog.lift (.load (stgM (half q)) (Rect.unit (s := S4096) (laneOff k) S16.size (laneOff_inb k)).toLoadRect (View.loadsAt_vmem h_S16))
  Prog.lift (.store (stgM (half q)) (Rect.unit (s := S4096) (laneOff k) S16.size (laneOff_inb k)) w Finset.univ (View.stores_vmem_bits_univ h_S16 rfl) (.inl rfl))
  pure ⟨⟩

inductive Step where
  | rowPut (n : Fin 13) | rowWait (n : Fin 13) | firstLabels | labels (n : Fin 13)
  | gather (q : Fin 4) | outPut (n : Fin 13) (q : Fin 4) | outWait (n : Fin 13) (q : Fin 4)

def Step.prog (i : grid0.Coords) : Step → TProg F i PUnit
  | .rowPut n => Prog.lift (.enqueueDma (rowS i n) (.here rowM) (.dma rowSem) ((View.wordExact_bits rfl).reshape _ _) (Memref.isWhole_whole _).wordExact ⟨Or.inl rfl, trivial⟩)
  | .rowWait n => Prog.lift (.waitDma2 rowSem (rowS i n) rowM ((View.wordExact_bits rfl).reshape _ _) (Memref.isWhole_whole _).wordExact)
  | .firstLabels => fetchLabels i 0
  | .labels n => fetchLabels i n
  | .gather q => Scf.Loop.for qLoop qLoop_ok ⟨⟩ fun k _ => gatherTrip i q k
  | .outPut n q => Prog.lift (.enqueueDma (stgM (half q)) (.here (outS i n q)) (.dma (stgSem (half q))) (stgM_whole _).wordExact ((View.wordExact_bits rfl).reshape _ _) ⟨Or.inl rfl, trivial⟩)
  | .outWait n q => Prog.lift (.waitDma2 (stgSem (half q)) (stgM (half q)) (outS i n q) (stgM_whole _).wordExact ((View.wordExact_bits rfl).reshape _ _))

/-- One step, then `k`; a later slab's labels are fetched only where its table is a new one. -/
def Step.andThen (i : grid0.Coords) {α : Type} (s : Step) (k : TProg F i α) : TProg F i α :=
  match s with
  | .labels n => if _h : freshW i n = 1#1 then (Step.labels n).prog i >>= fun _ => k else k
  | s => s.prog i >>= fun _ => k

theorem Step.andThen_bind (i : grid0.Coords) {α β : Type} (s : Step) (k : TProg F i α) (K : α → TProg F i β) :
    s.andThen i k >>= K = s.andThen i (k >>= K) := by
  cases s with
  | labels n =>
    simp only [Step.andThen]
    split
    · rw [bind_assoc]
    · rfl
  | _ => simp only [Step.andThen, bind_assoc]

/-- The steps in order, then `k`. -/
def steps (i : grid0.Coords) {α : Type} : List Step → TProg F i α → TProg F i α
  | [], k => k
  | s :: l, k => s.andThen i (steps i l k)

/-- A program is the steps of `l` in order, then a return. -/
def Runs {i : grid0.Coords} {α : Type} (p : TProg F i α) (l : List Step) : Prop := ∃ r, p = steps i l (pure r)

theorem steps_append (i : grid0.Coords) {α : Type} (l l' : List Step) (k : TProg F i α) :
    steps i (l ++ l') k = steps i l (steps i l' k) := by
  induction l with
  | nil => rfl
  | cons s l ih => simp only [List.cons_append, steps, ih]

theorem steps_bind (i : grid0.Coords) {α β : Type} (l : List Step) (k : TProg F i α) (K : α → TProg F i β) :
    steps i l k >>= K = steps i l (k >>= K) := by
  induction l with
  | nil => rfl
  | cons s l ih => simp only [steps, Step.andThen_bind, ih]

theorem Runs.bind {i : grid0.Coords} {α β : Type} {p : TProg F i α} {K : α → TProg F i β} {l l' : List Step}
    (hp : Runs p l) (hK : ∀ r, Runs (K r) l') : Runs (p >>= K) (l ++ l') := by
  obtain ⟨r, rfl⟩ := hp
  obtain ⟨r', hr'⟩ := hK r
  refine ⟨r', ?_⟩
  rw [steps_bind, pure_bind, hr', steps_append]

/-! ## The schedule -/

/-- Slab 0 from the arrival of its row. -/
def slab0 : List Step :=
  [.rowWait 0, .gather 0, .outPut 0 0, .gather 1, .outPut 0 1, .outWait 0 0, .gather 2, .outPut 0 2, .outWait 0 1, .gather 3, .outPut 0 3]

/-- A later slab, `p` its predecessor. -/
def slab (p n : Fin 13) : List Step :=
  [.rowPut n, .labels n, .rowWait n, .outWait p 2, .gather 0, .outPut n 0, .outWait p 3, .gather 1, .outPut n 1,
    .outWait n 0, .gather 2, .outPut n 2, .outWait n 1, .gather 3, .outPut n 3]

/-- The slabs up to `n`. -/
def slabs : (n : Nat) → n < 13 → List Step
  | 0, _ => [.rowPut 0, .firstLabels] ++ slab0
  | n + 1, h => slabs n (by omega) ++ slab ⟨n, by omega⟩ ⟨n + 1, h⟩

def schedule : List Step := slabs 12 (by omega) ++ [.outWait 12 2, .outWait 12 3]

set_option maxHeartbeats 40000000 in
/-- The printed body, on the kernel's arrays, is the schedule. -/
theorem body_runs (i : grid0.Coords) :
    Runs (F := F) (cc0__slab_gather i tblM (Memref.isWhole_whole _) idxM (Memref.isWhole_whole _) outM (Memref.isWhole_whole _)
      rowM (Memref.isWhole_whole _) labM (Memref.isWhole_whole _) (Memref.whole cc0_scratch2) (Memref.isWhole_whole _)
      (Memref.whole cc0_scratch3) (Memref.isWhole_whole _) cc0_scratch4 cc0_scratch5 cc0_scratch6 cc0_scoped0 cc0_scoped1 cc0_scoped2
      cc0_scoped3 cc0_scoped4 cc0_scoped5 cc0_scoped6 cc0_scoped7 cc0_scoped8 cc0_scoped9 cc0_scoped10 cc0_scoped11 cc0_scoped12) schedule := by
  unfold cc0__slab_gather
  refine Runs.bind (l := [.rowPut 0, .firstLabels]) ⟨_, rfl⟩ ?_; rintro ⟨_, _, _⟩
  refine Runs.bind (l := [.rowWait 0, .gather 0, .outPut 0 0, .gather 1]) ⟨_, rfl⟩ ?_; intro _
  refine Runs.bind (l := [.outPut 0 1, .outWait 0 0, .gather 2, .outPut 0 2, .outWait 0 1, .gather 3, .outPut 0 3]) ⟨_, rfl⟩ ?_; rintro ⟨_, _, _, _, _, _⟩
  refine Runs.bind (l := [.rowPut 1, .labels 1]) ⟨_, rfl⟩ ?_; intro _
  refine Runs.bind (l := [.rowWait 1, .outWait 0 2, .gather 0, .outPut 1 0, .outWait 0 3, .gather 1, .outPut 1 1, .outWait 1 0, .gather 2]) ⟨_, rfl⟩ ?_; intro _
  refine Runs.bind (l := [.outPut 1 2, .outWait 1 1, .gather 3, .outPut 1 3, .rowPut 2]) ⟨_, rfl⟩ ?_; intro _
  refine Runs.bind (l := [.labels 2, .rowWait 2, .outWait 1 2, .gather 0]) ⟨_, rfl⟩ ?_; intro _
  refine Runs.bind (l := [.outPut 2 0, .outWait 1 3, .gather 1, .outPut 2 1, .outWait 2 0, .gather 2, .outPut 2 2, .outWait 2 1, .gather 3]) ⟨_, rfl⟩ ?_; intro _
  refine Runs.bind (l := [.outPut 2 3, .rowPut 3]) ⟨_, rfl⟩ ?_; rintro ⟨_, _, _, _, _, _⟩
  refine Runs.bind (l := [.labels 3, .rowWait 3, .outWait 2 2, .gather 0, .outPut 3 0, .outWait 2 3, .gather 1]) ⟨_, rfl⟩ ?_; intro _
  refine Runs.bind (l := [.outPut 3 1, .outWait 3 0, .gather 2, .outPut 3 2, .outWait 3 1, .gather 3, .outPut 3 3]) ⟨_, rfl⟩ ?_; rintro ⟨_, _, _, _, _⟩
  refine Runs.bind (l := [.rowPut 4, .labels 4]) ⟨_, rfl⟩ ?_; intro _
  refine Runs.bind (l := [.rowWait 4, .outWait 3 2, .gather 0, .outPut 4 0, .outWait 3 3, .gather 1, .outPut 4 1, .outWait 4 0, .gather 2]) ⟨_, rfl⟩ ?_; intro _
  refine Runs.bind (l := [.outPut 4 2, .outWait 4 1, .gather 3, .outPut 4 3]) ⟨_, rfl⟩ ?_; intro _
  refine Runs.bind (l := [.rowPut 5, .labels 5, .rowWait 5, .outWait 4 2, .gather 0]) ⟨_, rfl⟩ ?_; intro _
  refine Runs.bind (l := [.outPut 5 0, .outWait 4 3, .gather 1, .outPut 5 1, .outWait 5 0, .gather 2, .outPut 5 2, .outWait 5 1, .gather 3]) ⟨_, rfl⟩ ?_; intro _
  refine Runs.bind (l := [.outPut 5 3, .rowPut 6]) ⟨_, rfl⟩ ?_; rintro ⟨_, _, _, _, _⟩
  refine Runs.bind (l := [.labels 6, .rowWait 6, .outWait 5 2, .gather 0, .outPut 6 0, .outWait 5 3, .gather 1]) ⟨_, rfl⟩ ?_; intro _
  refine Runs.bind (l := [.outPut 6 1, .outWait 6 0, .gather 2, .outPut 6 2, .outWait 6 1, .gather 3, .outPut 6 3]) ⟨_, rfl⟩ ?_; rintro ⟨_, _, _, _⟩
  refine Runs.bind (l := [.rowPut 7]) ⟨_, rfl⟩ ?_; intro _
  refine Runs.bind (l := [.labels 7, .rowWait 7, .outWait 6 2, .gather 0, .outPut 7 0, .outWait 6 3, .gather 1, .outPut 7 1, .outWait 7 0, .gather 2]) ⟨_, rfl⟩ ?_; intro _
  refine Runs.bind (l := [.outPut 7 2, .outWait 7 1, .gather 3, .outPut 7 3]) ⟨_, rfl⟩ ?_; intro _
  refine Runs.bind (l := [.rowPut 8, .labels 8, .rowWait 8, .outWait 7 2]) ⟨_, rfl⟩ ?_; rintro ⟨_, _, _⟩
  refine Runs.bind (l := [.gather 0, .outPut 8 0, .outWait 7 3, .gather 1, .outPut 8 1, .outWait 8 0, .gather 2, .outPut 8 2, .outWait 8 1]) ⟨_, rfl⟩ ?_; rintro ⟨_, _⟩
  refine Runs.bind (l := [.gather 3, .outPut 8 3, .rowPut 9]) ⟨_, rfl⟩ ?_; rintro ⟨_, _, _, _⟩
  refine Runs.bind (l := [.labels 9, .rowWait 9, .outWait 8 2, .gather 0, .outPut 9 0, .outWait 8 3]) ⟨_, rfl⟩ ?_; rintro ⟨_, _⟩
  refine Runs.bind (l := [.gather 1, .outPut 9 1, .outWait 9 0, .gather 2, .outPut 9 2, .outWait 9 1, .gather 3, .outPut 9 3]) ⟨_, rfl⟩ ?_; rintro ⟨_, _, _, _, _⟩
  refine Runs.bind (l := [.rowPut 10]) ⟨_, rfl⟩ ?_; rintro ⟨_, _⟩
  refine Runs.bind (l := [.labels 10, .rowWait 10, .outWait 9 2, .gather 0, .outPut 10 0, .outWait 9 3, .gather 1, .outPut 10 1, .outWait 10 0]) ⟨_, rfl⟩ ?_; rintro ⟨_, _⟩
  refine Runs.bind (l := [.gather 2, .outPut 10 2, .outWait 10 1, .gather 3, .outPut 10 3]) ⟨_, rfl⟩ ?_; rintro ⟨_, _, _⟩
  refine Runs.bind (l := [.rowPut 11, .labels 11, .rowWait 11, .outWait 10 2]) ⟨_, rfl⟩ ?_; rintro ⟨_, _⟩
  refine Runs.bind (l := [.gather 0, .outPut 11 0, .outWait 10 3, .gather 1, .outPut 11 1, .outWait 11 0, .gather 2, .outPut 11 2, .outWait 11 1]) ⟨_, rfl⟩ ?_; intro _
  refine Runs.bind (l := [.gather 3, .outPut 11 3, .rowPut 12]) ⟨_, rfl⟩ ?_; rintro ⟨_, _, _, _, _⟩
  refine Runs.bind (l := [.labels 12, .rowWait 12, .outWait 11 2, .gather 0, .outPut 12 0, .outWait 11 3]) ⟨_, rfl⟩ ?_; intro _
  refine Runs.bind (l := [.gather 1, .outPut 12 1, .outWait 12 0, .gather 2, .outPut 12 2, .outWait 12 1, .gather 3, .outPut 12 3, .outWait 12 2]) ⟨_, rfl⟩ ?_; intro _
  exact ⟨_, rfl⟩

end Cert.Proof.Slab

end
-- ==== Proof.Values.lean ====
/-
  What the kernel computes, element by element: the result's entry (d, p, b) is entry L[d, b] of row p of table d, L the labels.
  Where each of a tile's slices lies in its array, what the row, the labels and the staging buffer then hold, and that a trip
  of the gather extends the staged part by its sixteen lanes.
-/
module

public import proofs.«01_k».proof.Proof.Prog
public import Idealize.ShloMosaic.Lib.ValueIdxCore

@[expose] public section

noncomputable section

namespace Cert.Proof.Slab

open Cert.KernelIdeal Cert.KernelIdeal.Gen
open Idealize.ShloMosaic Idealize.SL.Sem
open Idealize.ShloMosaic.ValueIdx (ix1 ix2 ix3 eq_ix1 eq_ix2 eq_ix3)

variable {F : FTy → Type} [FloatOps F]

/-! ## Where the slices lie -/

abbrev tabF (i : grid0.Coords) (n : Fin 13) : Fin 26 := ⟨tab i n, tab_lt i n⟩
abbrev rowF (i : grid0.Coords) (n : Fin 13) : Fin 16 := ⟨row i n, row_lt i n⟩
/-- Position `x` of quarter `q`. -/
abbrev posF (q : Fin 4) (x : Fin 4096) : Fin 16384 := ⟨4096 * q.val + x.val, by have := q.isLt; have := x.isLt; omega⟩

theorem rowS_emb (i : grid0.Coords) (n : Fin 13) (x : S100000.Idx) :
    (rowS i n).view.emb x = (ix3 (tabF i n) (rowF i n) (x 0) : S26x16x100000.Idx) := by
  show (Rect.unit (s := S26x16x100000) (rowOff i n) S1x1x100000.size (rowOff_inb i n)).emb (Shape.reshapeEquiv _ x) = _
  rw [Shape.reshapeEquiv_eq_of_rowMajor (y := (ix3 (0 : Fin 1) (0 : Fin 1) (x 0) : S1x1x100000.Idx)) _
    (by rw [Shape.rowMajor_val_three, Shape.rowMajor_val_one]; simp)]
  funext a; apply Fin.ext
  refine (congrArg (fun z => z + 1 * _) (congrFun (rowOff_eq i n) a)).trans ?_
  match a with
  | ⟨0, _⟩ => rfl
  | ⟨1, _⟩ => rfl
  | ⟨2, _⟩ => show 0 + 1 * (x 0).val = (x 0).val; omega

theorem labS_emb (i : grid0.Coords) (n : Fin 13) (x : S16384.Idx) :
    (labS i n).view.emb x = (ix2 (tabF i n) (x 0) : S26x16384.Idx) := by
  show (Rect.unit (s := S26x16384) (labOff i n) S1x16384.size (labOff_inb i n)).emb (Shape.reshapeEquiv _ x) = _
  rw [Shape.reshapeEquiv_eq_of_rowMajor (y := (ix2 (0 : Fin 1) (x 0) : S1x16384.Idx)) _
    (by rw [Shape.rowMajor_val_two, Shape.rowMajor_val_one]; simp)]
  funext a; apply Fin.ext
  refine (congrArg (fun z => z + 1 * _) (congrFun (labOff_eq i n) a)).trans ?_
  match a with
  | ⟨0, _⟩ => rfl
  | ⟨1, _⟩ => show 0 + 1 * (x 0).val = (x 0).val; omega

theorem outS_emb (i : grid0.Coords) (n : Fin 13) (q : Fin 4) (x : S4096.Idx) :
    (outS i n q).view.emb x = (ix3 (tabF i n) (rowF i n) (posF q (x 0)) : S26x16x16384.Idx) := by
  show (Rect.unit (s := S26x16x16384) (outOff i n q) S1x1x4096.size (outOff_inb i n q)).emb (Shape.reshapeEquiv _ x) = _
  rw [Shape.reshapeEquiv_eq_of_rowMajor (y := (ix3 (0 : Fin 1) (0 : Fin 1) (x 0) : S1x1x4096.Idx)) _
    (by rw [Shape.rowMajor_val_three, Shape.rowMajor_val_one]; simp)]
  funext a; apply Fin.ext
  refine (congrArg (fun z => z + 1 * _) (congrFun (outOff_eq i n q) a)).trans ?_
  match a with
  | ⟨0, _⟩ => rfl
  | ⟨1, _⟩ => rfl
  | ⟨2, _⟩ => show 4096 * q.val + 1 * (x 0).val = 4096 * q.val + (x 0).val; omega

/-! ## The result -/

variable (tb : S26x16x100000.Idx → Elt F .f32) (lb : S26x16384.Idx → BitVec 32)

/-- Every label names an entry of a row. -/
def LabelsOK : Prop := ∀ x, (lb x).toNat < 100000

variable (hlb : LabelsOK lb)

/-- The result: entry (d, p, b) is row p of table d at label (d, b). -/
def gathered : S26x16x16384.Idx → Elt F .f32 :=
  fun x => tb (ix3 (x 0) (x 1) ⟨(lb (ix2 (x 0) (x 2))).toNat, hlb _⟩)

/-- The row buffer holds slab `n`'s row. -/
def RowHolds (i : grid0.Coords) (n : Fin 13) (f : S100000.Idx → Elt F .f32) : Prop :=
  ∀ x, f x = tb (ix3 (tabF i n) (rowF i n) (x 0))
/-- The label buffer holds the labels of table `t`. -/
def LabHolds (t : Fin 26) (f : S16384.Idx → BitVec 32) : Prop := ∀ x, f x = lb (ix2 t (x 0))
/-- The first `k` entries of a staging buffer are quarter `q` of slab `n` of the result. -/
def Staged (i : grid0.Coords) (n : Fin 13) (q : Fin 4) (k : Nat) (f : S4096.Idx → Elt F .f32) : Prop :=
  ∀ x : S4096.Idx, (x 0).val < k → f x = gathered tb lb hlb (ix3 (tabF i n) (rowF i n) (posF q (x 0)))

variable {tb lb hlb}

theorem row_arrives (i : grid0.Coords) (n : Fin 13) : RowHolds tb i n ((rowS i n).view.read (Elt F) tb) :=
  fun x => (View.read_apply (v := (rowS i n).view) tb x).trans ((cast_eq _ _).trans (congrArg tb (rowS_emb i n x)))

theorem labels_arrive (i : grid0.Coords) (n : Fin 13) : LabHolds lb (tabF i n) ((labS i n).view.read (Elt F) lb) :=
  fun x => (View.read_apply (v := (labS i n).view) (Val := Elt F) lb x).trans ((cast_eq _ _).trans (congrArg lb (labS_emb i n x)))

/-- Quarter `q` staged whole, sent: the slice written holds the result. -/
theorem quarter_arrives {i : grid0.Coords} {n : Fin 13} {q : Fin 4} {f : S4096.Idx → Elt F .f32} (hf : Staged tb lb hlb i n q 4096 f)
    (g : S26x16x16384.Idx → Elt F .f32) :
    ∀ y ∈ (outS i n q).view.set, (outS i n q).view.write (Elt F) g f Finset.univ y = gathered tb lb hlb y := by
  intro y hy
  obtain ⟨x, -, rfl⟩ := Finset.mem_map.mp hy
  rw [View.write_emb_of_mem _ _ (Finset.mem_univ x), outS_emb]
  exact (cast_eq _ _).trans (hf x (x 0).isLt)

/-! ## One trip of the gather -/

abbrev pickR (q : Fin 4) (k : Fin qLoop.trips) : Rect S16384 := Rect.unit (s := S16384) (pickOff q k) S16.size (pickOff_inb q k)
abbrev laneR (k : Fin qLoop.trips) : Rect S4096 := Rect.unit (s := S4096) (laneOff k) S16.size (laneOff_inb k)

theorem picked {t : Fin 26} {f : S16384.Idx → BitVec 32} (hf : LabHolds lb t f) (q : Fin 4) (k : Fin qLoop.trips) (j : S16.Idx)
    (h : 4096 * q.val + 16 * k.val + (j 0).val < 16384) :
    labM.view.readAt (Elt F) (pickR q k).toLoadRect f j = lb (ix2 t ⟨4096 * q.val + 16 * k.val + (j 0).val, h⟩) := by
  show f ((pickR q k).toLoadRect.idx j) = _
  rw [hf]
  congr 2
  apply Fin.ext
  show pickOff q k 0 + 1 * (j 0).val = 4096 * q.val + 16 * k.val + (j 0).val
  rw [pickOff_eq]
  show 4096 * q.val + 16 * k.val + 1 * (j 0).val = 4096 * q.val + 16 * k.val + (j 0).val
  omega

theorem pick_lt (q : Fin 4) (k : Fin qLoop.trips) (j : S16.Idx) : 4096 * q.val + 16 * k.val + (j 0).val < 16384 := by
  have := q.isLt; have := trip_lt k
  have : (j 0).val < 16 := (j 0).isLt
  omega

include hlb in
/-- The labels a trip picks pass the kernel's check. -/
theorem picked_ok {t : Fin 26} {f : S16384.Idx → BitVec 32} (hf : LabHolds lb t f) (q : Fin 4) (k : Fin qLoop.trips) :
    k0_chk1 (labM.view.readAt (Elt F) (pickR q k).toLoadRect f) := by
  intro a j
  obtain rfl : a = 0 := Subsingleton.elim _ _
  show (labM.view.readAt (Elt F) (pickR q k).toLoadRect f j).toNat < 100000
  rw [picked hf q k j (pick_lt q k j)]
  exact hlb _

/-- A trip's sixteen lanes are the result's. -/
theorem lanes_eq {i : grid0.Coords} {n : Fin 13} {r : S100000.Idx → Elt F .f32} (hr : RowHolds tb i n r)
    {f : S16384.Idx → BitVec 32} (hf : LabHolds lb (tabF i n) f) (q : Fin 4) (k : Fin qLoop.trips)
    (hw : k0_chk1 (labM.view.readAt (Elt F) (pickR q k).toLoadRect f)) (j : S16.Idx) :
    loadIdx (F := F) ((rowM.access (Rect.whole S100000)).read (Elt F) r) ![labM.view.readAt (Elt F) (pickR q k).toLoadRect f] (k0_idx1_inb _ hw) j
      = gathered tb lb hlb (ix3 (tabF i n) (rowF i n) ⟨4096 * q.val + 16 * k.val + (j 0).val, pick_lt q k j⟩) := by
  have hread : ∀ z, (rowM.access (Rect.whole S100000)).read (Elt F) r z = r z := fun z => by
    show r ((Rect.whole S100000).emb z) = r z
    rw [Rect.emb_whole_apply]
  show (rowM.access (Rect.whole S100000)).read (Elt F) r _ = _
  rw [hread, hr]
  show tb _ = tb _
  congr 2
  apply Fin.ext
  show (labM.view.readAt (Elt F) (pickR q k).toLoadRect f j).toNat = _
  rw [picked hf q k j (pick_lt q k j)]

/-- A trip extends the staged part by sixteen entries. -/
theorem staged_trip (v : Memref sig .scVector .vmem S4096 .f32) {i : grid0.Coords} {n : Fin 13} (q : Fin 4) (k : Fin qLoop.trips)
    {g : v.view.ty.Contents (Elt F)} (hg : Staged tb lb hlb i n q (16 * k.val) (v.view.read (Elt F) g)) {w : S16.Idx → Elt F .f32}
    (hw : ∀ j : S16.Idx, w j = gathered tb lb hlb (ix3 (tabF i n) (rowF i n) ⟨4096 * q.val + 16 * k.val + (j 0).val, pick_lt q k j⟩)) :
    Staged tb lb hlb i n q (16 * (k.val + 1)) (v.view.read (Elt F) ((v.access (laneR k)).write (Elt F) g w Finset.univ)) := by
  intro x hx
  by_cases hk : (x 0).val < 16 * k.val
  · rw [← hg x hk, View.read_apply, View.read_apply, View.write_of_not_mem]
    rintro hm
    obtain ⟨j, -, hj⟩ := Finset.mem_map.mp hm
    have hx' : (laneR k).emb j = x := v.view.emb.injective hj
    have h0 : (laneR k).off 0 + 1 * (j 0).val = (x 0).val := congrArg (fun z : S4096.Idx => (z 0).val) hx'
    have : laneOff k 0 + 1 * (j 0).val = (x 0).val := h0
    rw [laneOff_eq] at this
    have : 16 * k.val + 1 * (j 0).val = (x 0).val := this
    omega
  · have hj : (x 0).val - 16 * k.val < 16 := by omega
    have hx' : (laneR k).emb (ix1 (⟨(x 0).val - 16 * k.val, hj⟩ : Fin 16) : S16.Idx) = x := by
      funext a; apply Fin.ext
      obtain rfl : a = 0 := Subsingleton.elim _ _
      show laneOff k 0 + 1 * ((x 0).val - 16 * k.val) = (x 0).val
      rw [laneOff_eq]
      show 16 * k.val + 1 * ((x 0).val - 16 * k.val) = (x 0).val
      omega
    have he : v.view.emb x = (v.access (laneR k)).emb (ix1 (⟨(x 0).val - 16 * k.val, hj⟩ : Fin 16) : S16.Idx) :=
      congrArg v.view.emb hx'.symm
    rw [View.read_apply, he, View.write_emb_of_mem _ _ (Finset.mem_univ _), cast_cast]
    refine (cast_eq _ _).trans ((hw _).trans ?_)
    congr 2
    apply Fin.ext
    show 4096 * q.val + 16 * k.val + ((x 0).val - 16 * k.val) = 4096 * q.val + (x 0).val
    omega

end Cert.Proof.Slab

end
-- ==== Proof.Steps.lean ====
/-
  One step of the schedule at a time: what a tile holds before it and after it. A copy in flight is held as the promise of what
  it delivers, and the wait hands that over; the row's, the labels' and the staged quarters' contents are carried along.
-/
module

public import proofs.«01_k».proof.Proof.Values
public import Idealize.ShloMosaic.Lib.SparseCore.Quiescent
public import Idealize.ShloMosaic.Lib.SparseCore.FromWhole
public import Idealize.ShloMosaic.Lib.StableHlo.Run
public import Idealize.ShloMosaic.Lib.Pipeline.Kit
public import Idealize.ShloMosaic.Lib.Tactic

@[expose] public section

noncomputable section

namespace Cert.Proof.Slab

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (Flight Flight_mono MayWaits)

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

/-! ## What a tile holds -/

section Tile

variable (d : Dev nD) (i : grid0.Coords)

abbrev thr : Thread nD τ := V d ((i 0).castLE hcore0) ((i 1).castLE hsub0)

variable (tb : S26x16x100000.Idx → Elt F .f32) (lb : S26x16384.Idx → BitVec 32) (hlb : LabelsOK lb)
variable (qt ql : PosShare TreeShare) (O : CellTallies nD τ sig (HIx 1)) (W : Waits sig (HIx 1))

/-- What it owes the launch, and leave to wait under that. -/
def Ow : sProp 𝕄 :=
  iprop(MayWaits (thr d i) (none : HIx 1) O ∗ ∃ W', ⌜∀ p ∈ W', p ∈ W ∨ p.2 = none⌝ ∗ owes (thr d i) O W')

/-- A semaphore of the tile at zero. -/
abbrev sem0 (s : DmaSem sig) : sProp 𝕄 := semVal (thr d i, SemLoc.dma s) 0

abbrev tblP : sProp 𝕄 := (tblM.view.loc (thr d i)) ↦{qt} tb
abbrev labP : sProp 𝕄 := (idxM.view.loc (thr d i)) ↦{ql} lb
abbrev rowB (f : S100000.Idx → Elt F .f32) : sProp 𝕄 := (rowM.view.loc (thr d i)) ↦{fullShare} f
abbrev labB (f : S16384.Idx → BitVec 32) : sProp 𝕄 := (labM.view.loc (thr d i)) ↦{fullShare} f
abbrev stgB (b : Fin 2) (f : (stgM b).view.ty.Contents (Elt F)) : sProp 𝕄 := ((stgM b).view.loc (thr d i)) ↦{fullShare} f
/-- Quarter `q` of slab `n` of the result, at `f`. -/
abbrev outP (n : Fin 13) (q : Fin 4) (f : S26x16x16384.Idx → Elt F .f32) : sProp 𝕄 :=
  ((outS i n q).view.loc (thr d i)) ↦[(outS i n q).view.set]{fullShare} f

/-- The row buffer at slab `n`'s row. -/
def RowAt (n : Fin 13) : sProp 𝕄 := iprop(∃ f, ⌜RowHolds tb i n f⌝ ∗ rowB d i f)
/-- The row buffer free, with what a fetch of a row takes. -/
def RowIdle : sProp 𝕄 := iprop((∃ f, rowB (F := F) d i f) ∗ tblP d i tb qt ∗ sem0 d i rowSem)
/-- Slab `n`'s row on its way. -/
def RowPend (n : Fin 13) : sProp 𝕄 :=
  Flight countersEmb (thr d i) (.dma rowSem) (none : HIx 1) rowM.view.dmaCredit iprop(RowAt d i tb n ∗ tblP d i tb qt)
/-- Slab `n`'s row arrived. -/
def RowHas (n : Fin 13) : sProp 𝕄 := iprop(RowAt d i tb n ∗ tblP d i tb qt ∗ sem0 d i rowSem)

/-- The label buffer at table `t`'s labels. -/
def LabHas (t : Fin 26) : sProp 𝕄 := iprop(∃ f, ⌜LabHolds lb t f⌝ ∗ labB (F := F) d i f)
/-- What a fetch of labels takes. -/
def LabSrc : sProp 𝕄 := iprop(labP (F := F) d i lb ql ∗ bigSep (Finset.univ : Finset (Fin 13)) fun n => sem0 d i (labSem n))

/-- A staging buffer free. -/
def StgIdle (b : Fin 2) : sProp 𝕄 := iprop((∃ f, stgB (F := F) d i b f) ∗ sem0 d i (stgSem b))
/-- The first `k` entries of quarter `q` of slab `n` staged. -/
def StgAt (n : Fin 13) (q : Fin 4) (k : Nat) : sProp 𝕄 :=
  iprop(∃ f, ⌜Staged tb lb hlb i n q k ((stgM (half q)).view.read (Elt F) f)⌝ ∗ stgB d i (half q) f)
/-- Quarter `q` of slab `n` on its way to the result. -/
def Sent (n : Fin 13) (q : Fin 4) : sProp 𝕄 :=
  Flight countersEmb (thr d i) (.dma (stgSem (half q))) (none : HIx 1) (outS i n q).view.dmaCredit
    iprop(outP d i n q (gathered tb lb hlb) ∗ ∃ f, stgB (F := F) d i (half q) f)

variable {d i tb lb hlb qt ql O W}

/-- Running a tile's program `p` to `Q`. -/
abbrev tile (d : Dev nD) (i : grid0.Coords) {α : Type} (p : TProg F i α) (Q : α → sProp 𝕄) : sProp 𝕄 :=
  wp frame (wpE (defs₀ (F := F)) 𝒱₀ (thr d i) none) Set.univ p Q

/-! ## The copies -/

/-- A wait for a copy in flight. -/
theorem wait_step {α : Type} {Q : α → sProp 𝕄} {sp sp' : Space} {s s' : Shape} {e e' : EltTy} {κ' : Kind} {sem : DmaSem sig} {srcw : Memref sig .scVector sp' s' e'}
    {dstw : Memref sig κ' sp s e} {hsrc : srcw.view.WordExact} {hdst : dstw.view.WordExact} {N : ℕ} (hN : dstw.view.dmaCredit = N)
    {Dv : sProp 𝕄} {kk : PUnit.{1} → TProg F i α} :
    iprop(Flight countersEmb (thr d i) (.dma sem) (none : HIx 1) N Dv ∗ Ow d i O W)
      ⊢ iprop((iprop(Dv ∗ sem0 d i sem ∗ Ow d i O W) -∗ tile d i (kk ⟨⟩) Q)
          -∗ tile d i (.op (.waitDma2 sem srcw dstw hsrc hdst) kk) Q) := by
  unfold Ow
  iintro ⟨Hfl, #Hmw, %W', %hW, HO⟩ Hk
  iapply (Transfers.wp_waitLocalO countersEmb 𝒱₀ (thr d i) none (none : HIx 1) hN) $$ [Hfl HO]
  · isplitl [Hfl]; · iexact Hfl
    isplitl [HO]; · iexact HO
    iapply (MayWaits.elim (SemLoc.dma sem)); iexact Hmw
  iintro ⟨HD, Hs, HO⟩
  iapply Hk
  isplitl [HD]; · iexact HD
  isplitl [Hs]; · iexact Hs
  isplitr; · iexact Hmw
  iexists (insert (SemLoc.dma sem, none) W'); isplitr
  · ipureintro; intro p hp
    rcases Finset.mem_insert.mp hp with rfl | hp
    · exact .inr rfl
    · exact hW p hp
  iexact HO

theorem rowPut_step {α : Type} {k : TProg F i α} {Q : α → sProp 𝕄} (n : Fin 13) :
    RowIdle d i tb qt ⊢ iprop((RowPend d i tb qt n -∗ tile d i k Q) -∗ tile d i ((Step.rowPut n).andThen i k) Q) := by
  unfold RowIdle RowPend
  iintro ⟨⟨%f, Hr⟩, Ht, Hs⟩ Hk
  iapply (Transfers.wp_dmaFromWhole countersEmb 𝒱₀ (thr d i) none (src := rowS i n) (dst := rowM) (sm := .dma rowSem) (q := qt) (fs := tb) (fd := f)
    (Sd := Finset.univ) (none : HIx 1) rowM.view.dmaCredit rfl (View.dmaCredit_pos _ (by decide)) (Finset.subset_univ _)) $$ [Hr Ht Hs]
  · isplitl [Ht]; · iexact Ht
    isplitl [Hr]; · iexact Hr
    iexact Hs
  iintro Hfl
  iapply Hk
  iapply (Flight_mono countersEmb (thr d i) (show _ ⊢ iprop(RowAt d i tb n ∗ tblP d i tb qt) from ?_)) $$ Hfl
  unfold RowAt
  iintro ⟨Hr, Ht⟩
  isplitl [Hr]
  · iexists ((rowS i n).view.read (Elt F) tb)
    isplitr; · ipureintro; exact row_arrives i n
    iapply (Entails.of_eq (congrArg (rowB d i) (View.write_whole_univ (Val := Elt F) cc0_scratch0 f _))); iexact Hr
  · iexact Ht

theorem rowWait_step {α : Type} {k : TProg F i α} {Q : α → sProp 𝕄} (n : Fin 13) :
    iprop(RowPend d i tb qt n ∗ Ow d i O W)
      ⊢ iprop((iprop(RowHas d i tb qt n ∗ Ow d i O W) -∗ tile d i k Q) -∗ tile d i ((Step.rowWait n).andThen i k) Q) := by
  unfold RowPend RowHas
  iintro H Hk
  iapply (wait_step (dstw := rowM) rfl) $$ H
  iintro ⟨⟨Hr, Ht⟩, Hs, HO⟩
  iapply Hk
  isplitl [Hr Ht Hs]
  · isplitl [Hr]; · iexact Hr
    isplitl [Ht]; · iexact Ht
    iexact Hs
  iexact HO

theorem fetch_step {α : Type} {k : TProg F i α} {Q : α → sProp 𝕄} (n : Fin 13) :
    iprop((∃ f, labB (F := F) d i f) ∗ LabSrc (F := F) d i lb ql ∗ Ow d i O W)
      ⊢ iprop((iprop(LabHas (F := F) d i lb (tabF i n) ∗ LabSrc (F := F) d i lb ql ∗ Ow d i O W) -∗ tile d i k Q) -∗ tile d i (fetchLabels i n >>= fun _ => k) Q) := by
  unfold LabSrc LabHas
  iintro ⟨⟨%f, Hb⟩, ⟨Hl, Hss⟩, HO⟩ Hk
  ihave ⟨Hs, Hss⟩ := (Entails.of_eq (SparseCore.bigSep_erase' (Finset.mem_univ n))) $$ Hss
  iapply (Transfers.wp_dmaFromWhole countersEmb 𝒱₀ (thr d i) none (src := labS i n) (dst := labM) (sm := .dma (labSem n)) (q := ql) (fs := lb) (fd := f)
    (Sd := Finset.univ) (none : HIx 1) labM.view.dmaCredit rfl (View.dmaCredit_pos _ (by decide)) (Finset.subset_univ _)) $$ [Hb Hl Hs]
  · isplitl [Hl]; · iexact Hl
    isplitl [Hb]; · iexact Hb
    iexact Hs
  iintro Hfl
  iapply (wait_step (dstw := labM) rfl) $$ [Hfl HO]
  · isplitl [Hfl]; · iexact Hfl
    iexact HO
  iintro ⟨⟨Hb, Hl⟩, Hs, HO⟩
  iapply Hk
  isplitl [Hb]
  · iexists ((labS i n).view.read (Elt F) lb)
    isplitr; · ipureintro; exact labels_arrive i n
    iapply (Entails.of_eq (congrArg (labB (F := F) d i) (View.write_whole_univ (Val := Elt F) cc0_scratch1 f _))); iexact Hb
  isplitl [Hl Hs Hss]
  · isplitl [Hl]; · iexact Hl
    iapply (Entails.of_eq (SparseCore.bigSep_erase' (Finset.mem_univ n)).symm)
    isplitl [Hs]; · iexact Hs
    iexact Hss
  iexact HO

/-- A buffer that holds a table's labels is a buffer. -/
theorem labels_stale {t : Fin 26} {R : sProp 𝕄} :
    iprop(LabHas (F := F) d i lb t ∗ R) ⊢ iprop((∃ f, labB (F := F) d i f) ∗ R) := by
  unfold LabHas
  iintro ⟨⟨%f, -, Hb⟩, HR⟩
  isplitl [Hb]
  · iexists f; iexact Hb
  iexact HR

/-- A later slab's labels: fetched where its table is a new one, the same ones else. -/
theorem labels_step {α : Type} {k : TProg F i α} {Q : α → sProp 𝕄} {p n : Fin 13} (hp : p.val = n.val - 1) :
    iprop(LabHas (F := F) d i lb (tabF i p) ∗ LabSrc (F := F) d i lb ql ∗ Ow d i O W)
      ⊢ iprop((iprop(LabHas (F := F) d i lb (tabF i n) ∗ LabSrc (F := F) d i lb ql ∗ Ow d i O W) -∗ tile d i k Q) -∗ tile d i ((Step.labels n).andThen i k) Q) := by
  rcases freshW_iff i n with h | h
  · simp only [Step.andThen, h, ↓reduceDIte, Step.prog]
    exact BI.Entails.trans labels_stale (fetch_step n)
  · by_cases hf : freshW i n = 1#1
    · simp only [Step.andThen, hf, ↓reduceDIte, Step.prog]
      exact BI.Entails.trans labels_stale (fetch_step n)
    · simp only [Step.andThen, hf, ↓reduceDIte]
      rw [show tabF i p = tabF i n from Fin.ext (h p hp).symm]
      iintro H Hk
      iapply Hk; iexact H

theorem outPut_step {α : Type} {k : TProg F i α} {Q : α → sProp 𝕄} (n : Fin 13) (q : Fin 4) (g : S26x16x16384.Idx → Elt F .f32) :
    iprop(StgAt d i tb lb hlb n q 4096 ∗ outP d i n q g ∗ sem0 d i (stgSem (half q)))
      ⊢ iprop((Sent d i tb lb hlb n q -∗ tile d i k Q) -∗ tile d i ((Step.outPut n q).andThen i k) Q) := by
  unfold StgAt Sent
  iintro ⟨⟨%f, %hf, Hb⟩, Ho, Hs⟩ Hk
  iapply (Transfers.wp_dmaFromWhole countersEmb 𝒱₀ (thr d i) none (src := stgM (half q)) (dst := outS i n q) (sm := .dma (stgSem (half q))) (q := fullShare) (fs := f) (fd := g)
    (Sd := (outS i n q).view.set) (none : HIx 1) (outS i n q).view.dmaCredit rfl (View.dmaCredit_pos _ (by decide)) subset_rfl) $$ [Hb Ho Hs]
  · isplitl [Hb]; · iexact Hb
    isplitl [Ho]; · iexact Ho
    iexact Hs
  iintro Hfl
  iapply Hk
  iapply (Flight_mono countersEmb (thr d i) (show _ ⊢ iprop(outP d i n q (gathered tb lb hlb) ∗ ∃ f, stgB (F := F) d i (half q) f) from ?_)) $$ Hfl
  iintro ⟨Ho, Hb⟩
  isplitl [Ho]
  · iapply (Entails.of_eq (pointsTo_congr (quarter_arrives hf g))); iexact Ho
  · iexists f; iexact Hb

theorem outWait_step {α : Type} {k : TProg F i α} {Q : α → sProp 𝕄} (n : Fin 13) (q : Fin 4) :
    iprop(Sent d i tb lb hlb n q ∗ Ow d i O W)
      ⊢ iprop((iprop(outP d i n q (gathered tb lb hlb) ∗ StgIdle (F := F) d i (half q) ∗ Ow d i O W) -∗ tile d i k Q) -∗ tile d i ((Step.outWait n q).andThen i k) Q) := by
  unfold Sent StgIdle
  iintro H Hk
  iapply (wait_step (dstw := outS i n q) rfl) $$ H
  iintro ⟨⟨Ho, Hb⟩, Hs, HO⟩
  iapply Hk
  isplitl [Ho]; · iexact Ho
  isplitl [Hb Hs]
  · isplitl [Hb]; · iexact Hb
    iexact Hs
  iexact HO

/-! ## The gather -/

theorem gatherTrip_step (n : Fin 13) (q : Fin 4) (t : Fin qLoop.trips) :
    iprop(RowAt d i tb n ∗ LabHas (F := F) d i lb (tabF i n) ∗ StgAt d i tb lb hlb n q (16 * t.val))
      ⊢ tile d i (gatherTrip i q t) fun _ => iprop(RowAt d i tb n ∗ LabHas (F := F) d i lb (tabF i n) ∗ StgAt d i tb lb hlb n q (16 * (t.val + 1))) := by
  unfold RowAt LabHas StgAt gatherTrip
  simp only [Prog.lift, Prog.bind_op, Prog.bind_ret, Prog.pure_eq_ret]
  iintro ⟨⟨%r, %hr, Hr⟩, ⟨%l, %hl, Hl⟩, ⟨%g, %hg, Hg⟩⟩
  iapply (wp_load 𝒱₀ (thr d i) none Set.univ (m := labM) (S := Finset.univ) (Finset.subset_univ _)) $$ Hl; iintro Hl
  rw [wp_assume_of _ _ _ _ (picked_ok (hlb := hlb) hl q t)]
  ihave Hr' := (Entails.of_eq (show rowB d i r = ((rowM.access (.whole S100000)).loc (thr d i) ↦{fullShare} r : sProp 𝕄) from rfl)) $$ Hr
  iapply (SparseCore.wp_vectorLoadIdx 𝒱₀ (thr d i) none Set.univ (base := rowM) (S := Finset.univ) (q := fullShare) (Finset.subset_univ _)) $$ Hr'; iintro Hr'
  iapply (wp_load 𝒱₀ (thr d i) none Set.univ (m := stgM (half q)) (S := Finset.univ) (Finset.subset_univ _)) $$ Hg; iintro Hg
  ihave Hg' := (Entails.of_eq (show stgB d i (half q) g = ((((stgM (half q)).access (laneR t)).loc (thr d i)) ↦{fullShare} g : sProp 𝕄) from rfl)) $$ Hg
  iapply (wp_store 𝒱₀ (thr d i) none Set.univ (m := stgM (half q)) (r := laneR t) (Mk := Finset.univ) (S := Finset.univ) (Finset.subset_univ _)) $$ Hg'; iintro Hg'
  rw [wp_ret]; imodintro
  isplitl [Hr']
  · iexists r; isplitr; · ipureintro; exact hr
    iexact Hr'
  isplitl [Hl]
  · iexists l; isplitr; · ipureintro; exact hl
    iexact Hl
  iexists _; isplitr
  rotate_left
  · iexact Hg'
  · ipureintro
    exact staged_trip (stgM (half q)) q t hg (lanes_eq hr hl q t (picked_ok (hlb := hlb) hl q t))

theorem gather_step {α : Type} {k : TProg F i α} {Q : α → sProp 𝕄} (n : Fin 13) (q : Fin 4) :
    iprop(RowHas d i tb qt n ∗ LabHas (F := F) d i lb (tabF i n) ∗ StgIdle (F := F) d i (half q))
      ⊢ iprop((iprop(RowHas d i tb qt n ∗ LabHas (F := F) d i lb (tabF i n) ∗ StgAt d i tb lb hlb n q 4096 ∗ sem0 d i (stgSem (half q))) -∗ tile d i k Q)
          -∗ tile d i ((Step.gather q).andThen i k) Q) := by
  unfold RowHas StgIdle
  iintro ⟨⟨Hr, Ht⟩, Hl, ⟨%f, Hb⟩, Hs⟩ Hk
  iapply (Scf.wp_for_bind frame (wpE (defs₀ (F := F)) 𝒱₀ (thr d i) none) Set.univ qLoop.lb qLoop.ub qLoop.st qLoop_ok ⟨⟩ (fun t _ => gatherTrip i q t)
    (fun t _ => iprop(RowAt d i tb n ∗ LabHas (F := F) d i lb (tabF i n) ∗ StgAt d i tb lb hlb n q (16 * t)))
    (fun t _ => gatherTrip_step n q t)) $$ [Hr Hl Hb]
  · isplitl [Hr]; · iexact Hr
    isplitl [Hl]; · iexact Hl
    unfold StgAt; iexists f; isplitr
    · ipureintro; exact fun x hx => absurd hx (by omega)
    iexact Hb
  iintro %_ ⟨Hr, Hl, Hb⟩
  iapply Hk
  isplitl [Hr Ht]
  · isplitl [Hr]; · iexact Hr
    iexact Ht
  isplitl [Hl]; · iexact Hl
  isplitl [Hb]
  · iapply (Entails.of_eq (congrArg (fun t => StgAt d i tb lb hlb n q t) (show 16 * qLoop.trips = 4096 by rw [qLoop_trips]))); iexact Hb
  iexact Hs

end Tile

end Cert.Proof.Slab

end
-- ==== Proof.Tile.lean ====
/-
  A tile's whole run: quarter by quarter, slab by slab, then all thirteen, from the tile's buffers and semaphores as the launch
  gives them to the same with its thirteen rows of the result written.
-/
module

public import proofs.«01_k».proof.Proof.Steps

@[expose] public section

noncomputable section

namespace Cert.Proof.Slab

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (MayWaits)

variable {F : FTy → Type} [FloatOps F]

local notation "𝕄" => MT nD τ sig (HIx 1) (Elt F) ℕ UU ℕ

section Run

variable (d : Dev nD) (i : grid0.Coords)
variable (tb : S26x16x100000.Idx → Elt F .f32) (lb : S26x16384.Idx → BitVec 32) (hlb : LabelsOK lb)
variable (qt ql : PosShare TreeShare) (O : CellTallies nD τ sig (HIx 1)) (W : Waits sig (HIx 1))

/-- Between slab `n`'s steps: its row and its table's labels are there. -/
def Held (n : Fin 13) : sProp 𝕄 :=
  iprop(RowHas d i tb qt n ∗ LabHas (F := F) d i lb (tabF i n) ∗ LabSrc (F := F) d i lb ql ∗ Ow d i O W)

/-- Slab `n` of the result at `f`, in its quarters. -/
def Outs (n : Fin 13) (f : S26x16x16384.Idx → Elt F .f32) : sProp 𝕄 := bigSep (Finset.univ : Finset (Fin 4)) fun q => outP d i n q f

/-- A tile at rest: every buffer free, nothing in flight. -/
def Rest : sProp 𝕄 :=
  iprop(RowIdle d i tb qt ∗ (∃ f, labB (F := F) d i f) ∗ LabSrc (F := F) d i lb ql ∗ Ow d i O W ∗ StgIdle (F := F) d i 0 ∗ StgIdle (F := F) d i 1)

variable {d i tb lb hlb qt ql O W}

theorem outs_four (n : Fin 13) (f : S26x16x16384.Idx → Elt F .f32) :
    Outs d i n f = iprop(outP d i n 0 f ∗ outP d i n 1 f ∗ outP d i n 2 f ∗ outP d i n 3 f) := by
  unfold Outs
  rw [show (Finset.univ : Finset (Fin 4)) = {0, 1, 2, 3} from by decide, bigSep_insert (by decide), bigSep_insert (by decide),
    bigSep_insert (by decide), bigSep_singleton]
  rfl

theorem tile_ret {α : Type} {a : α} {Q : α → sProp 𝕄} : Q a ⊢ tile d i (pure a : TProg F i α) Q := by
  unfold tile
  rw [Prog.pure_eq_ret, wp_ret]
  iintro H; imodintro; iexact H

/-- Gather a quarter and send it. -/
theorem quarter_step {α : Type} {k : TProg F i α} {Q : α → sProp 𝕄} (n : Fin 13) (q : Fin 4) {b : Fin 2} (hb : half q = b)
    (g : S26x16x16384.Idx → Elt F .f32) :
    iprop(Held d i tb lb qt ql O W n ∗ StgIdle (F := F) d i b ∗ outP d i n q g)
      ⊢ iprop((iprop(Held d i tb lb qt ql O W n ∗ Sent d i tb lb hlb n q) -∗ tile d i k Q)
          -∗ tile d i ((Step.gather q).andThen i ((Step.outPut n q).andThen i k)) Q) := by
  subst hb
  unfold Held
  iintro ⟨⟨Hr, Hl, Hls, HO⟩, Hb, Ho⟩ Hk
  iapply (gather_step (hlb := hlb) n q) $$ [Hr Hl Hb]
  · isplitl [Hr]; · iexact Hr
    isplitl [Hl]; · iexact Hl
    iexact Hb
  iintro ⟨Hr, Hl, Hb, Hs⟩
  iapply (outPut_step n q g) $$ [Hb Ho Hs]
  · isplitl [Hb]; · iexact Hb
    isplitl [Ho]; · iexact Ho
    iexact Hs
  iintro Hfl
  iapply Hk
  isplitl [Hr Hl Hls HO]
  · isplitl [Hr]; · iexact Hr
    isplitl [Hl]; · iexact Hl
    isplitl [Hls]; · iexact Hls
    iexact HO
  iexact Hfl

/-- Wait for a sent quarter, in the middle of slab `m`. -/
theorem sent_step {α : Type} {k : TProg F i α} {Q : α → sProp 𝕄} (m n : Fin 13) (q : Fin 4) {b : Fin 2} (hb : half q = b) :
    iprop(Held d i tb lb qt ql O W m ∗ Sent d i tb lb hlb n q)
      ⊢ iprop((iprop(Held d i tb lb qt ql O W m ∗ StgIdle (F := F) d i b ∗ outP d i n q (gathered tb lb hlb)) -∗ tile d i k Q)
          -∗ tile d i ((Step.outWait n q).andThen i k) Q) := by
  subst hb
  unfold Held
  iintro ⟨⟨Hr, Hl, Hls, HO⟩, Hf⟩ Hk
  iapply (outWait_step n q) $$ [Hf HO]
  · isplitl [Hf]; · iexact Hf
    iexact HO
  iintro ⟨Ho, Hb, HO⟩
  iapply Hk
  isplitl [Hr Hl Hls HO]
  · isplitl [Hr]; · iexact Hr
    isplitl [Hl]; · iexact Hl
    isplitl [Hls]; · iexact Hls
    iexact HO
  isplitl [Hb]; · iexact Hb
  iexact Ho

/-- The second half of every slab: its quarters 2 and 3, after the waits for 0 and 1. -/
theorem late_step {α : Type} {k : TProg F i α} {Q : α → sProp 𝕄} (n : Fin 13) (g : S26x16x16384.Idx → Elt F .f32) :
    iprop(Held d i tb lb qt ql O W n ∗ Sent d i tb lb hlb n 0 ∗ Sent d i tb lb hlb n 1 ∗ outP d i n 2 g ∗ outP d i n 3 g)
      ⊢ iprop((iprop(Held d i tb lb qt ql O W n ∗ Sent d i tb lb hlb n 2 ∗ Sent d i tb lb hlb n 3
              ∗ outP d i n 0 (gathered tb lb hlb) ∗ outP d i n 1 (gathered tb lb hlb)) -∗ tile d i k Q)
          -∗ tile d i (steps i [.outWait n 0, .gather 2, .outPut n 2, .outWait n 1, .gather 3, .outPut n 3] k) Q) := by
  iintro ⟨HH, Hs0, Hs1, Ho2, Ho3⟩ Hk
  iapply (sent_step n n 0 (b := 0) rfl) $$ [HH Hs0]
  · isplitl [HH]; · iexact HH
    iexact Hs0
  iintro ⟨HH, Hb0, Ho0⟩
  iapply (quarter_step (hlb := hlb) n 2 (b := 0) rfl g) $$ [HH Hb0 Ho2]
  · isplitl [HH]; · iexact HH
    isplitl [Hb0]; · iexact Hb0
    iexact Ho2
  iintro ⟨HH, Hs2⟩
  iapply (sent_step n n 1 (b := 1) rfl) $$ [HH Hs1]
  · isplitl [HH]; · iexact HH
    iexact Hs1
  iintro ⟨HH, Hb1, Ho1⟩
  iapply (quarter_step (hlb := hlb) n 3 (b := 1) rfl g) $$ [HH Hb1 Ho3]
  · isplitl [HH]; · iexact HH
    isplitl [Hb1]; · iexact Hb1
    iexact Ho3
  iintro ⟨HH, Hs3⟩
  iapply Hk
  isplitl [HH]; · iexact HH
  isplitl [Hs2]; · iexact Hs2
  isplitl [Hs3]; · iexact Hs3
  isplitl [Ho0]; · iexact Ho0
  iexact Ho1

/-- The first slab. -/
theorem first_slab {α : Type} {k : TProg F i α} {Q : α → sProp 𝕄} (g : S26x16x16384.Idx → Elt F .f32) :
    iprop(Rest d i tb lb qt ql O W ∗ Outs d i 0 g)
      ⊢ iprop((iprop(Held d i tb lb qt ql O W 0 ∗ Sent d i tb lb hlb 0 2 ∗ Sent d i tb lb hlb 0 3
              ∗ outP d i 0 0 (gathered tb lb hlb) ∗ outP d i 0 1 (gathered tb lb hlb)) -∗ tile d i k Q)
          -∗ tile d i (steps i ([.rowPut 0, .firstLabels] ++ slab0) k) Q) := by
  rw [outs_four]
  unfold Rest
  iintro ⟨⟨Hr, Hl, Hls, HO, Hb0, Hb1⟩, Ho0, Ho1, Ho2, Ho3⟩ Hk
  iapply (rowPut_step 0) $$ Hr; iintro Hr
  iapply (fetch_step 0) $$ [Hl Hls HO]
  · isplitl [Hl]; · iexact Hl
    isplitl [Hls]; · iexact Hls
    iexact HO
  iintro ⟨Hl, Hls, HO⟩
  iapply (rowWait_step 0) $$ [Hr HO]
  · isplitl [Hr]; · iexact Hr
    iexact HO
  iintro ⟨Hr, HO⟩
  iapply (quarter_step (hlb := hlb) (tb := tb) (qt := qt) (ql := ql) (lb := lb) (O := O) (W := W) 0 0 (b := 0) rfl g) $$ [Hr Hl Hls HO Hb0 Ho0]
  · unfold Held
    isplitl [Hr Hl Hls HO]
    · isplitl [Hr]; · iexact Hr
      isplitl [Hl]; · iexact Hl
      isplitl [Hls]; · iexact Hls
      iexact HO
    isplitl [Hb0]; · iexact Hb0
    iexact Ho0
  iintro ⟨HH, Hs0⟩
  iapply (quarter_step (hlb := hlb) 0 1 (b := 1) rfl g) $$ [HH Hb1 Ho1]
  · isplitl [HH]; · iexact HH
    isplitl [Hb1]; · iexact Hb1
    iexact Ho1
  iintro ⟨HH, Hs1⟩
  iapply (late_step 0 g) $$ [HH Hs0 Hs1 Ho2 Ho3]
  · isplitl [HH]; · iexact HH
    isplitl [Hs0]; · iexact Hs0
    isplitl [Hs1]; · iexact Hs1
    isplitl [Ho2]; · iexact Ho2
    iexact Ho3
  iexact Hk

/-- A later slab, after `p`: its start waits for `p`'s last two quarters. -/
theorem next_slab {α : Type} {k : TProg F i α} {Q : α → sProp 𝕄} {p n : Fin 13} (hp : p.val = n.val - 1) (g : S26x16x16384.Idx → Elt F .f32) :
    iprop(Held d i tb lb qt ql O W p ∗ Sent d i tb lb hlb p 2 ∗ Sent d i tb lb hlb p 3 ∗ Outs d i n g)
      ⊢ iprop((iprop(Held d i tb lb qt ql O W n ∗ Sent d i tb lb hlb n 2 ∗ Sent d i tb lb hlb n 3
              ∗ outP d i n 0 (gathered tb lb hlb) ∗ outP d i n 1 (gathered tb lb hlb)
              ∗ outP d i p 2 (gathered tb lb hlb) ∗ outP d i p 3 (gathered tb lb hlb)) -∗ tile d i k Q)
          -∗ tile d i (steps i (slab p n) k) Q) := by
  rw [outs_four]
  iintro ⟨HH, Hs2, Hs3, Ho0, Ho1, Ho2, Ho3⟩ Hk
  ihave H := (show Held d i tb lb qt ql O W p ⊢ iprop(RowIdle d i tb qt ∗ LabHas (F := F) d i lb (tabF i p) ∗ LabSrc (F := F) d i lb ql ∗ Ow d i O W) from by
    unfold Held RowHas RowAt RowIdle
    iintro ⟨⟨⟨%f, -, Hr⟩, Ht, Hs⟩, HR⟩
    isplitl [Hr Ht Hs]
    · isplitl [Hr]
      · iexists f; iexact Hr
      isplitl [Ht]; · iexact Ht
      iexact Hs
    iexact HR) $$ HH
  icases H with ⟨Hr, Hl, Hls, HO⟩
  iapply (rowPut_step n) $$ Hr; iintro Hr
  iapply (labels_step hp) $$ [Hl Hls HO]
  · isplitl [Hl]; · iexact Hl
    isplitl [Hls]; · iexact Hls
    iexact HO
  iintro ⟨Hl, Hls, HO⟩
  iapply (rowWait_step n) $$ [Hr HO]
  · isplitl [Hr]; · iexact Hr
    iexact HO
  iintro ⟨Hr, HO⟩
  iapply (sent_step (tb := tb) (hlb := hlb) (qt := qt) (ql := ql) (lb := lb) (O := O) (W := W) n p 2 (b := 0) rfl) $$ [Hr Hl Hls HO Hs2]
  · unfold Held
    isplitl [Hr Hl Hls HO]
    · isplitl [Hr]; · iexact Hr
      isplitl [Hl]; · iexact Hl
      isplitl [Hls]; · iexact Hls
      iexact HO
    iexact Hs2
  iintro ⟨HH, Hb0, Hp2⟩
  iapply (quarter_step (hlb := hlb) n 0 (b := 0) rfl g) $$ [HH Hb0 Ho0]
  · isplitl [HH]; · iexact HH
    isplitl [Hb0]; · iexact Hb0
    iexact Ho0
  iintro ⟨HH, Hs0⟩
  iapply (sent_step n p 3 (b := 1) rfl) $$ [HH Hs3]
  · isplitl [HH]; · iexact HH
    iexact Hs3
  iintro ⟨HH, Hb1, Hp3⟩
  iapply (quarter_step (hlb := hlb) n 1 (b := 1) rfl g) $$ [HH Hb1 Ho1]
  · isplitl [HH]; · iexact HH
    isplitl [Hb1]; · iexact Hb1
    iexact Ho1
  iintro ⟨HH, Hs1⟩
  iapply (late_step n g) $$ [HH Hs0 Hs1 Ho2 Ho3]
  · isplitl [HH]; · iexact HH
    isplitl [Hs0]; · iexact Hs0
    isplitl [Hs1]; · iexact Hs1
    isplitl [Ho2]; · iexact Ho2
    iexact Ho3
  iintro ⟨HH, Hs2, Hs3, Ho0, Ho1⟩
  iapply Hk
  isplitl [HH]; · iexact HH
  isplitl [Hs2]; · iexact Hs2
  isplitl [Hs3]; · iexact Hs3
  isplitl [Ho0]; · iexact Ho0
  isplitl [Ho1]; · iexact Ho1
  isplitl [Hp2]; · iexact Hp2
  iexact Hp3

/-- The slabs before `n`. -/
def below (n : Nat) : Finset (Fin 13) := Finset.univ.filter fun m => m.val < n

theorem below_succ (n : Nat) (h : n < 13) (Φ : Fin 13 → sProp 𝕄) :
    bigSep (below (n + 1)) Φ = iprop(Φ ⟨n, h⟩ ∗ bigSep (below n) Φ) := by
  rw [show below (n + 1) = insert ⟨n, h⟩ (below n) from Finset.ext fun m => by
      simp only [below, Finset.mem_insert, Finset.mem_filter, Finset.mem_univ, true_and, Fin.ext_iff]; omega,
    bigSep_insert (by simp [below])]
  rfl

/-- The slabs up to `n`, the last two quarters of `n` still on their way. -/
theorem slabs_run {α : Type} {Q : α → sProp 𝕄} (g : S26x16x16384.Idx → Elt F .f32) (n : Nat) (h : n < 13) (k : TProg F i α) :
    iprop(Rest d i tb lb qt ql O W ∗ bigSep (below (n + 1)) fun m => Outs d i m g)
      ⊢ iprop((iprop(Held d i tb lb qt ql O W ⟨n, h⟩ ∗ Sent d i tb lb hlb ⟨n, h⟩ 2 ∗ Sent d i tb lb hlb ⟨n, h⟩ 3
              ∗ outP d i ⟨n, h⟩ 0 (gathered tb lb hlb) ∗ outP d i ⟨n, h⟩ 1 (gathered tb lb hlb)
              ∗ bigSep (below n) fun m => Outs d i m (gathered tb lb hlb)) -∗ tile d i k Q)
          -∗ tile d i (steps i (slabs n h) k) Q) := by
  induction n generalizing k with
  | zero =>
    rw [below_succ 0 h, show below 0 = ∅ from by simp [below], bigSep_empty, bigSep_empty]
    iintro ⟨HR, Ho, -⟩ Hk
    iapply (first_slab (hlb := hlb) g) $$ [HR Ho]
    · isplitl [HR]; · iexact HR
      iexact Ho
    iintro ⟨HH, Hs2, Hs3, Ho0, Ho1⟩
    iapply Hk
    isplitl [HH]; · iexact HH
    isplitl [Hs2]; · iexact Hs2
    isplitl [Hs3]; · iexact Hs3
    isplitl [Ho0]; · iexact Ho0
    isplitl [Ho1]; · iexact Ho1
    iempintro
  | succ n ih =>
    rw [below_succ (n + 1) h, below_succ n (by omega) (fun m => Outs d i m (gathered tb lb hlb)), outs_four (⟨n, by omega⟩ : Fin 13), slabs, steps_append]
    iintro ⟨HR, Ho, Hos⟩ Hk
    iapply (ih _ _) $$ [HR Hos]
    · isplitl [HR]; · iexact HR
      iexact Hos
    iintro ⟨HH, Hs2, Hs3, Hp0, Hp1, Hd⟩
    iapply (next_slab (hlb := hlb) rfl g) $$ [HH Hs2 Hs3 Ho]
    · isplitl [HH]; · iexact HH
      isplitl [Hs2]; · iexact Hs2
      isplitl [Hs3]; · iexact Hs3
      iexact Ho
    iintro ⟨HH, Hs2, Hs3, Ho0, Ho1, Hp2, Hp3⟩
    iapply Hk
    isplitl [HH]; · iexact HH
    isplitl [Hs2]; · iexact Hs2
    isplitl [Hs3]; · iexact Hs3
    isplitl [Ho0]; · iexact Ho0
    isplitl [Ho1]; · iexact Ho1
    isplitl [Hp0 Hp1 Hp2 Hp3]
    · isplitl [Hp0]; · iexact Hp0
      isplitl [Hp1]; · iexact Hp1
      isplitl [Hp2]; · iexact Hp2
      iexact Hp3
    iexact Hd

/-- All of a tile's steps. -/
theorem schedule_run {α : Type} {Q : α → sProp 𝕄} {k : TProg F i α} (g : S26x16x16384.Idx → Elt F .f32) :
    iprop(Rest d i tb lb qt ql O W ∗ bigSep (Finset.univ : Finset (Fin 13)) fun m => Outs d i m g)
      ⊢ iprop((iprop(Rest d i tb lb qt ql O W ∗ bigSep (Finset.univ : Finset (Fin 13)) fun m => Outs d i m (gathered tb lb hlb)) -∗ tile d i k Q)
          -∗ tile d i (steps i schedule k) Q) := by
  rw [show (Finset.univ : Finset (Fin 13)) = below (12 + 1) from by decide]
  rw [below_succ 12 (by omega) (fun m => Outs d i m (gathered tb lb hlb)), outs_four, schedule, steps_append]
  iintro H Hk
  iapply (slabs_run (hlb := hlb) g 12 _ _) $$ H
  iintro ⟨HH, Hs2, Hs3, Hp0, Hp1, Hd⟩
  iapply (sent_step 12 12 2 (b := 0) rfl) $$ [HH Hs2]
  · isplitl [HH]; · iexact HH
    iexact Hs2
  iintro ⟨HH, Hb0, Hp2⟩
  iapply (sent_step 12 12 3 (b := 1) rfl) $$ [HH Hs3]
  · isplitl [HH]; · iexact HH
    iexact Hs3
  iintro ⟨HH, Hb1, Hp3⟩
  iapply Hk
  isplitl [HH Hb0 Hb1]
  · unfold Held Rest RowHas RowIdle RowAt LabHas
    icases HH with ⟨⟨⟨%f, -, Hr⟩, Ht, Hs⟩, ⟨%l, -, Hl⟩, Hls, HO⟩
    isplitl [Hr Ht Hs]
    · isplitl [Hr]
      · iexists f; iexact Hr
      isplitl [Ht]; · iexact Ht
      iexact Hs
    isplitl [Hl]
    · iexists l; iexact Hl
    isplitl [Hls]; · iexact Hls
    isplitl [HO]; · iexact HO
    isplitl [Hb0]; · iexact Hb0
    iexact Hb1
  isplitl [Hp0 Hp1 Hp2 Hp3]
  · isplitl [Hp0]; · iexact Hp0
    isplitl [Hp1]; · iexact Hp1
    isplitl [Hp2]; · iexact Hp2
    iexact Hp3
  iexact Hd

end Run

/-! ## What the launch gives a tile -/

section Body

variable (d : Dev nD) (i : grid0.Coords)

/-- The sixteen semaphores of a tile: the labels' thirteen, the row's and the staging buffers'. -/
def semOf : Fin 13 ⊕ Fin 3 → DmaSem sig
  | .inl n => labSem n
  | .inr 0 => rowSem
  | .inr 1 => stgSem 0
  | .inr 2 => stgSem 1

theorem semOf_inj : Function.Injective semOf := by
  intro a b; revert a b; decide

/-- The same as cells of the tile. -/
def cellOf : Fin 13 ⊕ Fin 3 ↪ GSem nD τ sig :=
  ⟨fun s => (thr d i, SemLoc.dma (semOf s)), fun a b h => semOf_inj (SemLoc.dma.inj (Prod.mk.inj h).2)⟩

theorem semOf_scoped : ∀ s, (SemLoc.dma (semOf s) : SemLoc sig).isScoped .scVector = true := by decide

theorem cells_own : Finset.univ.map (cellOf d i) ⊆ ownCells (thr d i) := fun g hg => by
  obtain ⟨s, -, rfl⟩ := Finset.mem_map.mp hg
  exact (mem_ownCells (g := cellOf d i s)).mpr ⟨rfl, semOf_scoped s⟩

theorem ownSems0_V :
    (ownSems0 (thr d i) : sProp 𝕄)
      = iprop(((bigSep (Finset.univ : Finset (Fin 13)) fun n => sem0 d i (labSem n)) ∗ sem0 d i rowSem ∗ sem0 d i (stgSem 0) ∗ sem0 d i (stgSem 1))
          ∗ bigSep (ownCells (thr d i) \ Finset.univ.map (cellOf d i)) fun g => semVal g 0) := by
  unfold SparseCore.Cfg.ownSems0
  rw [bigSep_sdiff_split (cells_own d i), bigSep_map, bigSep_univ_sum,
    show (Finset.univ : Finset (Fin 3)) = {0, 1, 2} from by decide, bigSep_insert (by decide), bigSep_insert (by decide), bigSep_singleton]
  rfl

/-- The four scratch buffers of a tile. -/
def bufOf : Fin 4 → Ref sig .scVector
  | 0 => cc0_scratch0
  | 1 => cc0_scratch1
  | 2 => cc0_scratch2
  | 3 => cc0_scratch3

theorem bufOf_inj : Function.Injective bufOf := by
  intro a b; revert a b; decide

def cellB : Fin 4 ↪ DevRef τ sig :=
  ⟨fun b => (thr d i).2.devRef (bufOf b), fun _ _ h => bufOf_inj (Proc.devRef_injective _ h)⟩

theorem bufs_own : Finset.univ.map (cellB d i) ⊆ ownRefs (thr d i).2 := fun b hb => by
  obtain ⟨s, -, rfl⟩ := Finset.mem_map.mp hb
  refine SparseCore.Cfg.mem_ownRefs_of_owner (p := (thr d i).2) (b := cellB d i s) ?_
  clear hb
  match s with
  | 0 => rfl
  | 1 => rfl
  | 2 => rfl
  | 3 => rfl

theorem ownBufs_V :
    (ownBufs (thr d i) : sProp 𝕄)
      = iprop(((∃ f, rowB d i f) ∗ (∃ f, labB (F := F) d i f) ∗ (∃ f, stgB d i 0 f) ∗ (∃ f, stgB d i 1 f))
          ∗ bigSep (ownRefs (thr d i).2 \ Finset.univ.map (cellB d i)) fun b => iprop(∃ f, ((d, b) : Loc nD τ sig) ↦{fullShare} f)) := by
  unfold SparseCore.Cfg.ownBufs
  rw [bigSep_sdiff_split (bufs_own d i), bigSep_map,
    show (Finset.univ : Finset (Fin 4)) = {0, 1, 2, 3} from by decide, bigSep_insert (by decide), bigSep_insert (by decide),
    bigSep_insert (by decide), bigSep_singleton]
  rfl

/-- The tile's printed body: from its share of the table and of the labels and its slabs of the result, to the same with the
    slabs gathered. -/
theorem tile_body (tb : S26x16x100000.Idx → Elt F .f32) (lb : S26x16384.Idx → BitVec 32) (hlb : LabelsOK lb) (qt ql : PosShare TreeShare)
    (g : S26x16x16384.Idx → Elt F .f32) (hF : (K (F := F)).Facts) (O : CellTallies nD τ sig (HIx 1)) (W : Waits sig (HIx 1)) (hO : ∀ g, O g none = 0) :
    iprop(levAts (K (F := F)).L (K (F := F)).lev ∗ emp
        ∗ (tblP d i tb qt ∗ labP d i lb ql ∗ bigSep (Finset.univ : Finset (Fin 13)) fun n => Outs d i n g)
        ∗ scopedBufs (thr d i) ∗ scopedSems0 (thr d i) ∗ owes (thr d i) O W)
      ⊢ tile d i (cc0__slab_gather i tblM (Memref.isWhole_whole _) idxM (Memref.isWhole_whole _) outM (Memref.isWhole_whole _)
          rowM (Memref.isWhole_whole _) labM (Memref.isWhole_whole _) (Memref.whole cc0_scratch2) (Memref.isWhole_whole _)
          (Memref.whole cc0_scratch3) (Memref.isWhole_whole _) cc0_scratch4 cc0_scratch5 cc0_scratch6 cc0_scoped0 cc0_scoped1 cc0_scoped2
          cc0_scoped3 cc0_scoped4 cc0_scoped5 cc0_scoped6 cc0_scoped7 cc0_scoped8 cc0_scoped9 cc0_scoped10 cc0_scoped11 cc0_scoped12)
        fun _ => iprop((tblP d i tb qt ∗ labP d i lb ql ∗ bigSep (Finset.univ : Finset (Fin 13)) fun n => Outs d i n (gathered tb lb hlb))
          ∗ scopedBufs (thr d i) ∗ scopedSems0 (thr d i) ∗ ∃ W', ⌜∀ p ∈ W', p ∈ W ∨ p.2 = none⌝ ∗ owes (thr d i) O W') := by
  obtain ⟨r, hr⟩ := body_runs (F := F) i
  rw [hr, (K (F := F)).scopedBufs_V hF d ((i 0).castLE hcore0) ((i 1).castLE hsub0),
    SparseCore.Cfg.scopedSems0_V (Val := Elt F) d ((i 0).castLE hcore0) ((i 1).castLE hsub0), ownSems0_V, ownBufs_V]
  iintro ⟨#Hlv, -, ⟨Ht, Hl, Ho⟩, ⟨⟨Hr, Hlb, Hb0, Hb1⟩, Hbufs⟩, ⟨⟨Hls, Hrs, Hs0, Hs1⟩, Hsems⟩, HO⟩
  ihave #Hmw := (K (F := F)).mayWaits_none (thr := thr d i) hO $$ Hlv
  iapply (schedule_run (hlb := hlb) (tb := tb) (qt := qt) (ql := ql) (O := O) (W := W) g) $$ [Ht Hl Ho Hr Hlb Hb0 Hb1 Hls Hrs Hs0 Hs1 HO]
  · unfold Rest RowIdle LabSrc StgIdle Ow
    isplitl [Ht Hl Hr Hlb Hb0 Hb1 Hls Hrs Hs0 Hs1 HO]
    · isplitl [Hr Ht Hrs]
      · isplitl [Hr]; · iexact Hr
        isplitl [Ht]; · iexact Ht
        iexact Hrs
      isplitl [Hlb]; · iexact Hlb
      isplitl [Hl Hls]
      · isplitl [Hl]; · iexact Hl
        iexact Hls
      isplitl [HO]
      · isplitr; · iexact Hmw
        iexists W; isplitr
        · ipureintro; exact fun p hp => .inl hp
        iexact HO
      isplitl [Hb0 Hs0]
      · isplitl [Hb0]; · iexact Hb0
        iexact Hs0
      isplitl [Hb1]; · iexact Hb1
      iexact Hs1
    iexact Ho
  unfold Rest RowIdle LabSrc StgIdle Ow
  iintro ⟨⟨⟨Hr, Ht, Hrs⟩, Hlb, ⟨Hl, Hls⟩, ⟨-, HO⟩, ⟨Hb0, Hs0⟩, Hb1, Hs1⟩, Ho⟩
  iapply (tile_ret (α := PUnit.{1}))
  isplitl [Ht Hl Ho]
  · isplitl [Ht]; · iexact Ht
    isplitl [Hl]; · iexact Hl
    iexact Ho
  isplitl [Hr Hlb Hb0 Hb1 Hbufs]
  · isplitl [Hr Hlb Hb0 Hb1]
    · isplitl [Hr]; · iexact Hr
      isplitl [Hlb]; · iexact Hlb
      isplitl [Hb0]; · iexact Hb0
      iexact Hb1
    iexact Hbufs
  isplitl [Hls Hrs Hs0 Hs1 Hsems]
  · isplitl [Hls Hrs Hs0 Hs1]
    · isplitl [Hls]; · iexact Hls
      isplitl [Hrs]; · iexact Hrs
      isplitl [Hs0]; · iexact Hs0
      iexact Hs1
    iexact Hsems
  iexact HO

end Body

end Cert.Proof.Slab

end
-- ==== Proof.Launch.lean ====
/-
  The whole program's run: the two transposes, the call that deals the table and the labels out to the thirty-two tiles in
  shares and the result in slabs, and the last transpose. The arguments end as they were and the result is the gathered table,
  transposed; every semaphore is back at zero.
-/
module

public import proofs.«01_k».proof.Proof.Tile

@[expose] public section

noncomputable section

namespace Cert.Proof.Slab

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.Transfers (dealOf)
open Idealize.ShloMosaic.ValueIdx (ix1 ix2 ix3 eq_ix1 eq_ix2 eq_ix3)

variable {F : FTy → Type}

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3

/-- The table as the kernel reads it: one row of a table per parameter. -/
def tableOf (d : Dev nD) : S26x16x100000.Idx → Elt F .f32 :=
  transpose S26x16x100000 [0, 2, 1] (m (a1Loc d) : S26x100000x16.Idx → Elt F .f32) transposes_S26x100000x16_S26x16x100000_0_2_1
/-- The labels as the kernel reads them: one row per table. -/
def labelsOf (d : Dev nD) : S26x16384.Idx → BitVec 32 :=
  transpose S26x16384 [1, 0] (m (a0Loc d) : S16384x26.Idx → BitVec 32) transposes_S16384x26_S26x16384_1_0

/-- Every label is an entry of its table. -/
def PreOK : Prop := ∀ d x, ((m (a0Loc d) : S16384x26.Idx → BitVec 32) x).toNat < 100000

variable {m} in
theorem labels_ok (hpre : PreOK m) (d : Dev nD) : LabelsOK (labelsOf m d) := fun _ => hpre d _

variable (hpre : PreOK m)

/-- What lies where the kernel will write. -/
def outOf (d : Dev nD) : S26x16x16384.Idx → Elt F .f32 := m (v2Loc d)
/-- What the kernel leaves. -/
def slabsOf (d : Dev nD) : S26x16x16384.Idx → Elt F .f32 := gathered (tableOf m d) (labelsOf m d) (labels_ok hpre d)
/-- What the program returns. -/
def resultOf (d : Dev nD) : S16384x26x16.Idx → Elt F .f32 :=
  transpose S16384x26x16 [2, 0, 1] (slabsOf m hpre d) transposes_S26x16x16384_S16384x26x16_2_0_1

/-! ## What each tile is handed -/

def coordsV (c : Fin (grid0.bound 0)) (s : Fin (grid0.bound 1)) : grid0.Coords :=
  fun | 0 => c | 1 => s | ⟨_ + 2, h⟩ => absurd h (Nat.not_lt.2 (Nat.le_add_left _ _))

/-- The tile of SparseCore `c` and vector subcore `j`. -/
abbrev tileAt (c : Fin 2) (j : Fin 16) : grid0.Coords := coordsV c j

/-- Its share of an array that all the tiles read. -/
def shareAt (c : Fin 2) (j : Fin 16) : PosShare TreeShare := dealOf (dealOf fullShare (Finset.univ : Finset (Fin 2)) c) (Finset.univ : Finset (Fin 16)) j

variable [FloatOps F]

/-- A tile's part: a share of the table and of the labels, and its slabs of the result at `f`. -/
def part (d : Dev nD) (f : S26x16x16384.Idx → Elt F .f32) (c : Fin 2) (j : Fin 16) : sProp 𝕄 :=
  iprop(tblP d (tileAt c j) (tableOf m d) (shareAt c j) ∗ labP (F := F) d (tileAt c j) (labelsOf m d) (shareAt c j)
    ∗ bigSep (Finset.univ : Finset (Fin 13)) fun n => Outs d (tileAt c j) n f)

instance part_storable (d : Dev nD) (f : S26x16x16384.Idx → Elt F .f32) (c : Fin 2) (j : Fin 16) :
    BI.Storable (upEmb : UEmb _ 𝕄) (part m d f c j) := by
  unfold part Outs; infer_instance

/-- A SparseCore's part: its sixteen tiles'. -/
def coreParts (d : Dev nD) (f : S26x16x16384.Idx → Elt F .f32) (c : Fin 2) : sProp 𝕄 :=
  bigSep (Finset.univ : Finset (Fin 16)) fun j => part m d f c j

instance coreParts_storable (d : Dev nD) (f : S26x16x16384.Idx → Elt F .f32) (c : Fin 2) :
    BI.Storable (upEmb : UEmb _ 𝕄) (coreParts m d f c) := by
  unfold coreParts; infer_instance

theorem nCore_zero : (K (F := F)).nCore 0 = 2 := rfl
theorem nSub_zero : (K (F := F)).nSub 0 = 16 := rfl

/-- What the call carries: to and from each tile its part, to and from each SparseCore its sixteen tiles' parts. -/
def P : (K (F := F)).Pay (nD := nD) (Val := Elt F) (Name := ℕ) (U := UU) where
  st := fun q d c => match q with | 0 => coreParts m d (outOf m d) (Fin.cast nCore_zero c)
  dn := fun q d c => match q with | 0 => coreParts m d (slabsOf m hpre d) (Fin.cast nCore_zero c)
  go := fun q d c i => match q with | 0 => part m d (outOf m d) (Fin.cast nCore_zero c) (Fin.cast nSub_zero i)
  td := fun q d c i => match q with | 0 => part m d (slabsOf m hpre d) (Fin.cast nCore_zero c) (Fin.cast nSub_zero i)
  x := fun _ _ => iprop(emp)

instance P_storable : (P (F := F) m hpre).IsStorable where
  st q d c := by match q with | 0 => unfold P; infer_instance
  dn q d c := by match q with | 0 => unfold P; infer_instance
  go q d c i := by match q with | 0 => unfold P; infer_instance
  td q d c i := by match q with | 0 => unfold P; infer_instance

theorem P_st (d : Dev nD) (c : Fin ((K (F := F)).nCore 0)) :
    (P m hpre).st 0 d c = coreParts m d (outOf m d) (Fin.cast nCore_zero c) := by simp only [P]
theorem P_dn (d : Dev nD) (c : Fin ((K (F := F)).nCore 0)) :
    (P m hpre).dn 0 d c = coreParts m d (slabsOf m hpre d) (Fin.cast nCore_zero c) := by simp only [P]
theorem P_go (d : Dev nD) (c : Fin ((K (F := F)).nCore 0)) (i : Fin ((K (F := F)).nSub 0)) :
    (P m hpre).go 0 d c i = part m d (outOf m d) (Fin.cast nCore_zero c) (Fin.cast nSub_zero i) := by simp only [P]
theorem P_td (d : Dev nD) (c : Fin ((K (F := F)).nCore 0)) (i : Fin ((K (F := F)).nSub 0)) :
    (P m hpre).td 0 d c i = part m d (slabsOf m hpre d) (Fin.cast nCore_zero c) (Fin.cast nSub_zero i) := by simp only [P]

/-! ## The launch's obligations -/

theorem defs₀_vector (c : Fin τ.nSC) (s : Fin τ.nSub) :
    defs₀ (F := F) (.scVector c s) 0 ()
      = SparseCore.onTile hcore0 hsub0 (fun c s => cc0__slab_gather (coordsV c s) tblM (Memref.isWhole_whole _) idxM (Memref.isWhole_whole _) outM (Memref.isWhole_whole _)
          rowM (Memref.isWhole_whole _) labM (Memref.isWhole_whole _) (Memref.whole cc0_scratch2) (Memref.isWhole_whole _)
          (Memref.whole cc0_scratch3) (Memref.isWhole_whole _) cc0_scratch4 cc0_scratch5 cc0_scratch6 cc0_scoped0 cc0_scoped1 cc0_scoped2
          cc0_scoped3 cc0_scoped4 cc0_scoped5 cc0_scoped6 cc0_scoped7 cc0_scoped8 cc0_scoped9 cc0_scoped10 cc0_scoped11 cc0_scoped12) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m hpre) v₀ 0 := by
  intro d c i O W hO _ _
  simp only [show (P m hpre).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) (tableOf m d) (labelsOf m d) (labels_ok hpre d) (shareAt (Fin.cast nCore_zero c) (Fin.cast nSub_zero i))
    (shareAt (Fin.cast nCore_zero c) (Fin.cast nSub_zero i)) (outOf m d) facts O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m hpre) 0 := by
  intro d c
  rw [P_st, P_dn]
  unfold coreParts
  simp only [P_go, P_td]
  rw [bigSep_tasks (F := F) (fun i => part m d (outOf m d) (Fin.cast nCore_zero c) i),
    bigSep_tasks (F := F) (fun i => part m d (slabsOf m hpre d) (Fin.cast nCore_zero c) i)]
  iintro H; imodintro
  isplitl [H]; · iexact H
  iintro H; iexact H

/-! ## Dealing the arrays out -/

/-- A tile's slice of the result, by SparseCore, subcore, slab and quarter. -/
def sliceSet (t : (Fin 2 × Fin 16) × (Fin 13 × Fin 4)) : Finset S26x16x16384.Idx := (outS (tileAt t.1.1 t.1.2) t.2.1 t.2.2).view.set

/-- The slab and the quarter of a place in the result. -/
theorem mem_sliceSet (t : (Fin 2 × Fin 16) × (Fin 13 × Fin 4)) (y : S26x16x16384.Idx) :
    y ∈ sliceSet t ↔ 16 * (y 0).val + (y 1).val = 13 * (2 * t.1.2.val + t.1.1.val) + t.2.1.val ∧ (y 2).val / 4096 = t.2.2.val := by
  obtain ⟨⟨c, j⟩, n, q⟩ := t
  have e0 (x : S4096.Idx) : (outS (tileAt c j) n q).view.emb x = (ix3 (tabF (tileAt c j) n) (rowF (tileAt c j) n) (posF q (x 0)) : S26x16x16384.Idx) := outS_emb _ n q x
  show y ∈ Finset.univ.map (outS (tileAt c j) n q).view.emb ↔ _
  have hv0 : (tabF (tileAt c j) n).val = (13 * (2 * j.val + c.val) + n.val) / 16 := rfl
  have hv1 : (rowF (tileAt c j) n).val = (13 * (2 * j.val + c.val) + n.val) % 16 := rfl
  have hy1 : (y 1).val < 16 := (y 1).isLt
  have hy2 : (y 2).val < 16384 := (y 2).isLt
  rw [Finset.mem_map]
  constructor
  · rintro ⟨x, -, rfl⟩
    rw [e0 x]
    have hx : (x 0).val < 4096 := (x 0).isLt
    show 16 * (tabF (tileAt c j) n).val + (rowF (tileAt c j) n).val = 13 * (2 * j.val + c.val) + n.val ∧ (4096 * q.val + (x 0).val) / 4096 = q.val
    omega
  · rintro ⟨h1, h2⟩
    refine ⟨ix1 (⟨(y 2).val % 4096, Nat.mod_lt _ (by omega)⟩ : Fin 4096), Finset.mem_univ _, ?_⟩
    rw [e0]
    have h1' : 16 * (y 0).val + (y 1).val = 13 * (2 * j.val + c.val) + n.val := h1
    have h2' : (y 2).val / 4096 = q.val := h2
    refine Eq.trans ?_ (eq_ix3 y).symm
    congr 1
    · exact Fin.ext (by rw [hv0]; omega)
    · exact Fin.ext (by rw [hv1]; omega)
    · exact Fin.ext (show 4096 * q.val + (y 2).val % 4096 = (y 2).val by omega)

theorem slices_disjoint : ∀ t ∈ (Finset.univ : Finset ((Fin 2 × Fin 16) × (Fin 13 × Fin 4))), ∀ t' ∈ (Finset.univ : Finset ((Fin 2 × Fin 16) × (Fin 13 × Fin 4))),
    t ≠ t' → Disjoint (sliceSet t) (sliceSet t') := by
  intro t _ t' _ hne
  rw [Finset.disjoint_left]
  intro y h h'
  rw [mem_sliceSet] at h h'
  obtain ⟨⟨c, j⟩, n, q⟩ := t
  obtain ⟨⟨c', j'⟩, n', q'⟩ := t'
  simp only at h h'
  refine hne ?_
  have hc := c.isLt; have hc' := c'.isLt; have hn := n.isLt; have hn' := n'.isLt
  have e1 : c = c' := Fin.ext (by omega)
  have e2 : j = j' := Fin.ext (by omega)
  have e3 : n = n' := Fin.ext (by omega)
  have e4 : q = q' := Fin.ext (by omega)
  rw [e1, e2, e3, e4]

theorem slices_cover : (Finset.univ : Finset ((Fin 2 × Fin 16) × (Fin 13 × Fin 4))).biUnion sliceSet = Finset.univ := by
  refine Finset.eq_univ_of_forall fun y => ?_
  rw [Finset.mem_biUnion]
  have h0 : (y 0).val < 26 := (y 0).isLt
  have h1 : (y 1).val < 16 := (y 1).isLt
  have h2 : (y 2).val < 16384 := (y 2).isLt
  refine ⟨((⟨(16 * (y 0).val + (y 1).val) / 13 % 2, by omega⟩, ⟨(16 * (y 0).val + (y 1).val) / 13 / 2, by omega⟩),
    (⟨(16 * (y 0).val + (y 1).val) % 13, by omega⟩, ⟨(y 2).val / 4096, by omega⟩)), Finset.mem_univ _, (mem_sliceSet _ y).mpr ?_⟩
  show 16 * (y 0).val + (y 1).val = 13 * (2 * ((16 * (y 0).val + (y 1).val) / 13 / 2) + (16 * (y 0).val + (y 1).val) / 13 % 2) + (16 * (y 0).val + (y 1).val) % 13
    ∧ (y 2).val / 4096 = (y 2).val / 4096
  omega

theorem pts_deal (ℓ : Loc nD τ sig) (f : Buf (Elt F) ℓ) :
    (ℓ ↦{fullShare} f : sProp 𝕄) = bigSep Finset.univ fun c : Fin 2 => bigSep Finset.univ fun j : Fin 16 => ℓ ↦{shareAt c j} f := by
  rw [Transfers.pointsTo_deal (Finset.univ : Finset (Fin 2)) Finset.univ_nonempty fullShare]
  exact bigSep_congr fun c _ => Transfers.pointsTo_deal (Finset.univ : Finset (Fin 16)) Finset.univ_nonempty _

theorem out_deal (d : Dev nD) (f : S26x16x16384.Idx → Elt F .f32) :
    (v2Loc d ↦{fullShare} f : sProp 𝕄)
      = bigSep Finset.univ fun c : Fin 2 => bigSep Finset.univ fun j : Fin 16 => bigSep Finset.univ fun n : Fin 13 => Outs d (tileAt c j) n f := by
  have h := pointsTo_biUnion (Ix := HIx 1) (Name := ℕ) (U := UU) (Lvl := ℕ) (ℓ := v2Loc d) (q := fullShare) (f := f) Finset.univ sliceSet slices_disjoint
  rw [slices_cover] at h
  refine h.trans ?_
  rw [bigSep_univ_prod, bigSep_univ_prod]
  refine bigSep_congr fun c _ => bigSep_congr fun j _ => ?_
  rw [bigSep_univ_prod]
  rfl

/-- The three arrays, dealt out as the tiles' parts. -/
theorem parts_eq (d : Dev nD) (f : S26x16x16384.Idx → Elt F .f32) :
    (bigSep Finset.univ fun c : Fin 2 => coreParts m d f c)
      = iprop((v0Loc d ↦{fullShare} tableOf m d) ∗ (v1Loc d ↦{fullShare} labelsOf m d) ∗ v2Loc d ↦{fullShare} f : sProp 𝕄) := by
  rw [pts_deal (v0Loc d) (tableOf m d), pts_deal (v1Loc d) (labelsOf m d), out_deal]
  unfold coreParts part
  simp only [bigSep_sep']

theorem st0_eq (d : Dev nD) : (bigSep Finset.univ fun c : Fin ((K (F := F)).nCore 0) => (P m hpre).st 0 d c)
    = iprop((v0Loc d ↦{fullShare} tableOf m d) ∗ (v1Loc d ↦{fullShare} labelsOf m d) ∗ v2Loc d ↦{fullShare} outOf m d : sProp 𝕄) := by
  simp only [P_st]
  exact (bigSep_cores (F := F) fun c => coreParts m d (outOf m d) c).trans (parts_eq m d _)
theorem dn0_eq (d : Dev nD) : (bigSep Finset.univ fun c : Fin ((K (F := F)).nCore 0) => (P m hpre).dn 0 d c)
    = iprop((v0Loc d ↦{fullShare} tableOf m d) ∗ (v1Loc d ↦{fullShare} labelsOf m d) ∗ v2Loc d ↦{fullShare} slabsOf m hpre d : sProp 𝕄) := by
  simp only [P_dn]
  exact (bigSep_cores (F := F) fun c => coreParts m d (slabsOf m hpre d) c).trans (parts_eq m d _)

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hpre).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m hpre).x q thr) = bigSep Finset.univ fun _ => iprop(emp) from
    bigSep_congr fun _ _ => bigSep_univ_of_subsingleton (0 : Fin 1), bigSep_emp']
  iempintro

/-! ## @main -/

abbrev rA0 : DevRef τ sig := Proc.devRef .tc (main_arg0 : Ref sig .tc)
abbrev rA1 : DevRef τ sig := Proc.devRef .tc (main_arg1 : Ref sig .tc)
abbrev rV0 : DevRef τ sig := Proc.devRef .tc (main_v0 : Ref sig .tc)
abbrev rV1 : DevRef τ sig := Proc.devRef .tc (main_v1 : Ref sig .tc)
abbrev rV2 : DevRef τ sig := Proc.devRef .tc (main_v2 : Ref sig .tc)
abbrev rV3 : DevRef τ sig := Proc.devRef .tc (main_v3 : Ref sig .tc)

abbrev opTable : HloOp τ sig (Elt F) := StableHlo.unary main_arg1 main_v0
  ((transpose S26x16x100000 [0, 2, 1] · transposes_S26x100000x16_S26x16x100000_0_2_1) : (⟨S26x100000x16, .f32⟩ : BufTy).Contents (Elt F) → (⟨S26x16x100000, .f32⟩ : BufTy).Contents (Elt F))
abbrev opLabels : HloOp τ sig (Elt F) := StableHlo.unary main_arg0 main_v1
  ((transpose S26x16384 [1, 0] · transposes_S16384x26_S26x16384_1_0) : (⟨S16384x26, .i32⟩ : BufTy).Contents (Elt F) → (⟨S26x16384, .i32⟩ : BufTy).Contents (Elt F))
abbrev opOut : HloOp τ sig (Elt F) := StableHlo.unary main_v2 main_v3
  ((transpose S16384x26x16 [2, 0, 1] · transposes_S26x16x16384_S16384x26x16_2_0_1) : (⟨S26x16x16384, .f32⟩ : BufTy).Contents (Elt F) → (⟨S16384x26x16, .f32⟩ : BufTy).Contents (Elt F))

/-- The program's six arrays. -/
abbrev S6 : Finset (DevRef τ sig) := {rA0, rA1, rV0, rV1, rV2, rV3}

theorem held_S6 (d : Dev nD) (W : Valuation τ sig (Elt F)) :
    (held (T d) S6 W : sProp 𝕄) = iprop((a0Loc d ↦{fullShare} W rA0) ∗ (a1Loc d ↦{fullShare} W rA1) ∗ (v0Loc d ↦{fullShare} W rV0)
      ∗ (v1Loc d ↦{fullShare} W rV1) ∗ (v2Loc d ↦{fullShare} W rV2) ∗ v3Loc d ↦{fullShare} W rV3) := by
  unfold held S6
  rw [SparseCore.bigSep_insert' (by decide), SparseCore.bigSep_insert' (by decide), SparseCore.bigSep_insert' (by decide),
    SparseCore.bigSep_insert' (by decide), SparseCore.bigSep_insert' (by decide), bigSep_singleton]

def V0 (d : Dev nD) : Valuation τ sig (Elt F) := fun b => m (d, b)

theorem unscoped_held (d : Dev nD) : (unscopedBufs d (fun b => m ((SparseCore.T d).loc b)) : sProp 𝕄) = held (T d) S6 (V0 m d) := by
  unfold unscopedBufs
  rw [held_S6, show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]
  rfl

/-- After the two transposes. -/
def V2 (d : Dev nD) : Valuation τ sig (Elt F) := (opLabels (F := F)).result ((opTable (F := F)).result (V0 m d))

omit [FloatOps F] in
/-- The two transposes write nothing but their results. -/
theorem V2_of_ne (d : Dev nD) {r : Ref sig .tc} (h0 : r ≠ main_v0) (h1 : r ≠ main_v1) : V2 m d (Proc.devRef .tc r) = V0 m d (Proc.devRef .tc r) :=
  (StableHlo.unary_result_ne _ _ _ _ _ _ h1).trans (StableHlo.unary_result_ne _ _ _ _ _ _ h0)

omit [FloatOps F] in
theorem V2_v0 (d : Dev nD) : V2 m d rV0 = tableOf m d := (StableHlo.unary_result_ne _ _ _ _ _ _ (by decide)).trans (StableHlo.unary_result _ _ _ _ _ _)

omit [FloatOps F] in
theorem V2_v1 (d : Dev nD) : V2 m d rV1 = labelsOf m d := by
  refine (StableHlo.unary_result _ _ _ _ _ _).trans ?_
  rw [StableHlo.unary_result_ne _ _ _ _ _ _ (by decide)]
  rfl

theorem held_V2 (d : Dev nD) :
    (held (T d) S6 (V2 m d) : sProp 𝕄) = iprop((a0Loc d ↦{fullShare} m (a0Loc d)) ∗ (a1Loc d ↦{fullShare} m (a1Loc d)) ∗ (v0Loc d ↦{fullShare} tableOf m d)
      ∗ (v1Loc d ↦{fullShare} labelsOf m d) ∗ (v2Loc d ↦{fullShare} outOf m d) ∗ v3Loc d ↦{fullShare} m (v3Loc d)) := by
  rw [held_S6, V2_v0, V2_v1, V2_of_ne m d (r := main_arg0) (by decide) (by decide), V2_of_ne m d (r := main_arg1) (by decide) (by decide),
    V2_of_ne m d (r := main_v2) (by decide) (by decide), V2_of_ne m d (r := main_v3) (by decide) (by decide)]
  rfl

/-- After the call. -/
def V3 (d : Dev nD) : Valuation τ sig (Elt F) := Function.update (V2 m d) rV2 (slabsOf m hpre d)

omit [FloatOps F] in
theorem V3_v2 (d : Dev nD) : V3 m hpre d rV2 = slabsOf m hpre d := Function.update_self _ _ _
omit [FloatOps F] in
theorem V3_of_ne (d : Dev nD) {b : DevRef τ sig} (h : b ≠ rV2) : V3 m hpre d b = V2 m d b := Function.update_of_ne h _ _

theorem held_V3 (d : Dev nD) :
    (held (T d) S6 (V3 m hpre d) : sProp 𝕄) = iprop((a0Loc d ↦{fullShare} m (a0Loc d)) ∗ (a1Loc d ↦{fullShare} m (a1Loc d)) ∗ (v0Loc d ↦{fullShare} tableOf m d)
      ∗ (v1Loc d ↦{fullShare} labelsOf m d) ∗ (v2Loc d ↦{fullShare} slabsOf m hpre d) ∗ v3Loc d ↦{fullShare} m (v3Loc d)) := by
  rw [held_S6, V3_v2, V3_of_ne m hpre d (b := rA0) (by decide), V3_of_ne m hpre d (b := rA1) (by decide), V3_of_ne m hpre d (b := rV0) (by decide),
    V3_of_ne m hpre d (b := rV1) (by decide), V3_of_ne m hpre d (b := rV3) (by decide), V2_v0, V2_v1,
    V2_of_ne m d (r := main_arg0) (by decide) (by decide), V2_of_ne m d (r := main_arg1) (by decide) (by decide), V2_of_ne m d (r := main_v3) (by decide) (by decide)]
  rfl

/-- What @main leaves the claim: the arguments as they were and the result. -/
abbrev FIN (d : Dev nD) : sProp 𝕄 :=
  iprop((a0Loc d ↦{fullShare} m (a0Loc d)) ∗ (a1Loc d ↦{fullShare} m (a1Loc d)) ∗ v3Loc d ↦{fullShare} resultOf m hpre d)

/-- After the last transpose. -/
theorem held_V4 (d : Dev nD) : (held (T d) S6 ((opOut (F := F)).result (V3 m hpre d)) : sProp 𝕄) ⊢ FIN m hpre d := by
  rw [held_S6, show (opOut (F := F)).result (V3 m hpre d) rV3 = resultOf m hpre d from (StableHlo.unary_result _ _ _ _ _ _).trans (by rw [V3_v2]; rfl),
    show (opOut (F := F)).result (V3 m hpre d) rA0 = V3 m hpre d rA0 from StableHlo.unary_result_ne _ _ _ _ _ _ (by decide),
    show (opOut (F := F)).result (V3 m hpre d) rA1 = V3 m hpre d rA1 from StableHlo.unary_result_ne _ _ _ _ _ _ (by decide),
    V3_of_ne m hpre d (b := rA0) (by decide), V3_of_ne m hpre d (b := rA1) (by decide),
    V2_of_ne m d (r := main_arg0) (by decide) (by decide), V2_of_ne m d (r := main_arg1) (by decide) (by decide)]
  iintro ⟨H0, H1, -, -, -, H3⟩
  isplitl [H0]; · iexact H0
  isplitl [H1]; · iexact H1
  iexact H3

theorem hTable : (opTable (F := F)).bufs ⊆ S6 := show ({rA1, rV0} : Finset (DevRef τ sig)) ⊆ S6 by decide
theorem hLabels : (opLabels (F := F)).bufs ⊆ S6 := show ({rA0, rV1} : Finset (DevRef τ sig)) ⊆ S6 by decide
theorem hOut : (opOut (F := F)).bufs ⊆ S6 := show ({rV2, rV3} : Finset (DevRef τ sig)) ⊆ S6 by decide

/-- @main on a device: the two transposes, the call on the three arrays it takes, the last transpose. -/
theorem hmain (κ : GSem nD τ sig → ℕ) (d : Dev nD) :
    iprop((K (F := F)).ctx EH (P m hpre) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hpre d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opTable) (S := S6) hTable (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opLabels) (S := S6) hLabels (V := (opTable (F := F)).result (V0 m d))) $$ [Hb Hheld]
  · isplitl [Hb]; · iexact Hb
    iexact Hheld
  iintro ⟨Hb, Hheld⟩
  rw [wp_ret]; imodintro
  rw [show (opLabels (F := F)).result ((opTable (F := F)).result (V0 m d)) = V2 m d from rfl]
  ihave Hh := (Entails.of_eq (held_V2 (F := F) m d)) $$ Hheld
  icases Hh with ⟨Ha0, Ha1, Hv0, Hv1, Hv2, Hv3⟩
  iapply ((K (F := F)).wp_run (D (F := F)) 𝒱 (EH := EH) (P := P m hpre) κ d 0) $$ [Hst Ha0 Ha1 Hv0 Hv1 Hv2 Hv3 Hb Hts]
  isplitr; · iexact Hctx
  isplitl [Hst]; · iexact Hst
  isplitl [Hv0 Hv1 Hv2]
  · rw [st0_eq]
    isplitl [Hv0]; · iexact Hv0
    isplitl [Hv1]; · iexact Hv1
    iexact Hv2
  iintro ⟨Hst, Hdn⟩
  ihave Hdn' := (Entails.of_eq (dn0_eq m hpre d)) $$ Hdn
  icases Hdn' with ⟨Hv0, Hv1, Hv2⟩
  iapply (wp_hlo_within 𝒱 (SparseCore.T d) none Set.univ (op := opOut) (S := S6) hOut (V := V3 m hpre d)) $$ [Hb Ha0 Ha1 Hv0 Hv1 Hv2 Hv3]
  · isplitl [Hb]; · iexact Hb
    rw [held_V3]
    isplitl [Ha0]; · iexact Ha0
    isplitl [Ha1]; · iexact Ha1
    isplitl [Hv0]; · iexact Hv0
    isplitl [Hv1]; · iexact Hv1
    isplitl [Hv2]; · iexact Hv2
    iexact Hv3
  iintro ⟨Hb, Hheld⟩
  ihave HF := (held_V4 m hpre d) $$ Hheld
  rw [wp_ret]; imodintro; imodintro
  isplitl [Hst]; · iexact Hst
  isplitr [Hb Hts]
  · iexact HF
  isplitl [Hb] <;> iassumption

/-! ## The certificate -/

def fq (d : Dev nD) (s' : Phys nD τ sig (Elt F)) : Prop :=
  s'.mem.mem (a0Loc d) = m (a0Loc d) ∧ s'.mem.mem (a1Loc d) = m (a1Loc d) ∧ s'.mem.mem (v3Loc d) = resultOf m hpre d

theorem agree (ℓ : Loc nD τ sig) (f : Buf (Elt F) ℓ) (s' : Phys nD τ sig (Elt F)) :
    iprop(SI s' ∗ ℓ ↦{fullShare} f) ⊢ (iprop(⌜s'.mem.mem ℓ = f⌝ ∗ SI s' ∗ ℓ ↦{fullShare} f) : sProp 𝕄) := by
  refine (persistent_entails_right (SI_pointsTo_agree (st := s') (ℓ := ℓ) (I := Finset.univ) (q := fullShare) (f := f))).trans ?_
  iintro ⟨%h, HS⟩
  isplitr
  · ipureintro; exact funext fun i => h i (Finset.mem_univ i)
  · iexact HS

theorem hfin (d : Dev nD) (s' : Phys nD τ sig (Elt F)) : iprop(FIN m hpre d ∗ SI s') ⊢ (⌜fq m hpre d s'⌝ : sProp 𝕄) := by
  iintro ⟨⟨H0, H1, H3⟩, HSI⟩
  ihave H := (agree (a0Loc d) (m (a0Loc d)) s') $$ [HSI H0]
  · isplitl [HSI] <;> iassumption
  icases H with ⟨%h0, HSI, -⟩
  ihave H := (agree (a1Loc d) (m (a1Loc d)) s') $$ [HSI H1]
  · isplitl [HSI] <;> iassumption
  icases H with ⟨%h1, HSI, -⟩
  ihave H := (agree (v3Loc d) (resultOf m hpre d) s') $$ [HSI H3]
  · isplitl [HSI] <;> iassumption
  icases H with ⟨%h3, -⟩
  ipureintro
  exact ⟨h0, h1, h3⟩

/-- What the program leaves: on each device the arguments as they were and the result, and every semaphore at zero. -/
def QC : PUnit × MemSt nD τ sig (Elt F) → Prop := fun r =>
  (∀ c : Dev nD, r.2.mem (a0Loc c) = m (a0Loc c) ∧ r.2.mem (a1Loc c) = m (a1Loc c) ∧ r.2.mem (v3Loc c) = resultOf m hpre c) ∧ r.2.sem = fun _ => 0

/-- The whole run, over any float values. -/
theorem run_main [∀ e, Nonempty (Elt F e)] :
    θ_run (Cert.KernelIdeal.defs (F := F)) (Cert.KernelIdeal.threads (F := F)) ⟨m, fun _ => 0, ρ⟩ (QC m hpre) :=
  SparseCore.Cfg.θ_run_sc_quiescent (K := K (F := F)) (D := D (F := F)) (𝒱 := 𝒱) (EH := EH) (P := P m hpre) (A := ∅) facts v₀
    (fun q hq => match q with | 0 => nomatch hq)
    (fun q _ => match q with | 0 => tileObl m hpre)
    (fun q _ => match q with | 0 => SparseCore.Cfg.VecSplit.of_plain (vecSplit m hpre))
    m ρ main (fun _ => iprop(emp)) (FIN m hpre) (u₀ (F := F)) (sep_elim_left.trans (hu₀ m hpre)) (hmain m ρ hpre) (fq m hpre) (hfin m hpre) (QC m hpre)
    (fun _ h hz => ⟨h, hz⟩)

end Cert.Proof.Slab

end
-- ==== Proof.Reference.lean ====
/-
  What the reference computes when every label is an entry of its table: at sample `s`, table `t` and place `k`, the table's row
  at the sample's label. Its own handling of labels outside the table is then never taken.
-/
module

public import proofs.«01_k».proof.Proof.Gen.ReferenceIdeal.Run
public import Idealize.ShloMosaic.Lib.ValueLayout
public import Idealize.ShloMosaic.Lib.ReduceAll

@[expose] public section

noncomputable section

namespace Cert.Proof.Ref

open Cert.ReferenceIdeal Cert.ReferenceIdeal.Gen
open Idealize.ShloMosaic
open Idealize.ShloMosaic.ValueIdx (ix1 ix2 ix3 eq_ix1 eq_ix2 eq_ix3)

/-! ## A label inside the table -/

section Word

variable {v : BitVec 32} (hv : v.toNat < 100000)
include hv

theorem toInt_label : v.toInt = v.toNat := by rw [BitVec.toInt_eq_toNat_cond]; omega

theorem label_not_negative : IntOp.cmpi .slt v 0#32 = 0#1 := by
  have h : v.slt 0#32 = false := by rw [BitVec.slt_eq_decide, toInt_label hv]; simp
  simp only [IntOp.cmpi, h]; rfl

theorem label_ge : IntOp.cmpi .sge v 0#32 = 1#1 := by
  have h : (0#32).sle v = true := by rw [BitVec.sle_eq_decide, toInt_label hv]; simp
  simp only [IntOp.cmpi, h]; rfl

theorem label_le : IntOp.cmpi .sle v 99999#32 = 1#1 := by
  have h : v.sle 99999#32 = true := by
    rw [BitVec.sle_eq_decide, toInt_label hv, show (99999#32).toInt = 99999 by decide]
    exact decide_eq_true (by omega)
  simp only [IntOp.cmpi, h]; rfl

end Word

/-! ## The steps -/

variable {F : FTy → Type}

/-- The labels as the reference's lookup takes them: by table and sample, with a last axis of one. -/
abbrev look (a : IVec S16384x26 32) : IVec S26x16384x1 32 :=
  broadcastInDim S26x16384x1 ![0, 1] bcast_S26x16384_S26x16384x1_0_1 (transpose S26x16384 [1, 0] a transposes_S16384x26_S26x16384_1_0)

/-- A label below zero counted from the table's end. -/
abbrev wrap (v : IVec S26x16384x1 32) : IVec S26x16384x1 32 :=
  select (cmpi .slt v (broadcastInDim S26x16384x1 ![] bcast_S_S26x16384x1 (constantI S_ 32 0#32)))
    (addi v (broadcastInDim S26x16384x1 ![] bcast_S_S26x16384x1 (constantI S_ 32 100000#32))) v

/-- Whether a label is an entry of its table. -/
abbrev inside (v : IVec S26x16384x1 32) : IVec S26x16384 1 :=
  Host.reduce IntOp.andi (andi (cmpi .sge v (broadcastInDim S26x16384x1 ![] bcast_S_S26x16384x1 (constantI S_ 32 0#32)))
    (cmpi .sle v (broadcastInDim S26x16384x1 ![0, 1, 2] bcast_S1x1x1_S26x16384x1_0_1_2 (broadcastInDim S1x1x1 ![2] bcast_S1_S1x1x1_2 (constantI S1 32 99999#32)))))
    (constantI S_ 1 1#1) reducesTo_S26x16384x1_S26x16384_d2 h_S_

/-- The reference's result, as its operations compose it. -/
abbrev refOut [FloatOps F] (a : IVec S16384x26 32) (b : S26x100000x16.Idx → F .f32) : S16384x26x16.Idx → F .f32 :=
  transpose S16384x26x16 [1, 0, 2]
    (select (broadcastInDim S26x16384x16 ![0, 1] bcast_S26x16384_S26x16384x16_0_1 (inside (wrap (look a))))
      (Host.gather gather_S26x100000x16_S26x16384x1_S26x16384x16_2_1_0_0_1_2_1116 b (wrap (look a)))
      (broadcastInDim S26x16384x16 ![] bcast_S_S26x16384x16 (constant S_ .f32 0x7FC00000#32)))
    transposes_S26x16384x16_S16384x26x16_1_0_2

theorem look_apply (a : IVec S16384x26 32) (t : Fin 26) (s : Fin 16384) (z : Fin 1) : look a (ix3 t s z) = a (ix2 s t) :=
  (broadcastInDim_apply _ _ _ (ix3 t s z) (ix2 t s) fun c => match c with | ⟨0, _⟩ => rfl | ⟨1, _⟩ => rfl).trans
    (ValueIdx.transpose_ix2_apply a _ t s)

theorem look_lt {a : IVec S16384x26 32} (ha : ∀ x, (a x).toNat < 100000) (y : S26x16384x1.Idx) : (look a y).toNat < 100000 := ha _

theorem wrap_eq {v : IVec S26x16384x1 32} (hv : ∀ y, (v y).toNat < 100000) : wrap v = v := by
  funext y
  show Scalar.select (IntOp.cmpi .slt (v y) 0#32) _ (v y) = v y
  rw [label_not_negative (hv y)]
  rfl

theorem inside_eq {v : IVec S26x16384x1 32} (hv : ∀ y, (v y).toNat < 100000) (x : S26x16384.Idx) : inside v x = 1#1 :=
  Host.reduce_andi_one _ _ _ _ _ rfl fun y => by
    show IntOp.andi (IntOp.cmpi .sge (v y) 0#32) (IntOp.cmpi .sle (v y) 99999#32) = 1#1
    rw [label_ge (hv y), label_le (hv y)]; rfl

/-- The lookup at a table, a sample and a place: the table's row at the sample's label. -/
theorem gather_apply {α : Type} (b : S26x100000x16.Idx → α) (v : IVec S26x16384x1 32) (hv : ∀ y, (v y).toNat < 100000)
    (t : Fin 26) (s : Fin 16384) (k : Fin 16) :
    Host.gather gather_S26x100000x16_S26x16384x1_S26x16384x16_2_1_0_0_1_2_1116 b v (ix3 t s k)
      = b (ix3 t ⟨(v (ix3 t s (0 : Fin 1))).toNat, hv _⟩ k) := by
  let g : GatherDims S26x100000x16 S26x16384x1 S26x16384x16 := gather_S26x100000x16_S26x16384x1_S26x16384x16_2_1_0_0_1_2_1116
  unfold Host.gather
  refine congrArg b (funext fun c => Fin.ext ?_)
  show g.start (ix3 t s k) v c + g.batchCoord (ix3 t s k) c + g.offCoord (ix3 t s k) c = _
  match c with
  | ⟨0, _⟩ =>
    have h0 : (0 : Fin 3) ∈ g.operandBatchingDims := List.mem_singleton.mpr rfl
    show g.start (ix3 t s k) v 0 + g.batchCoord (ix3 t s k) 0 + g.offCoord (ix3 t s k) 0 = t.val
    rw [g.start_batching _ _ _ h0, g.offCoord_eq_zero _ _ fun h => ((g.mem_sKept _).mp h).2 h0, Nat.zero_add, Nat.add_zero]
    unfold GatherDims.batchCoord
    rw [dif_pos h0]
    rfl
  | ⟨1, _⟩ =>
    have h1 : (1 : Fin 3) ∈ g.startIndexMap := List.mem_singleton.mpr rfl
    show g.start (ix3 t s k) v 1 + g.batchCoord (ix3 t s k) 1 + g.offCoord (ix3 t s k) 1 = (v (ix3 t s (0 : Fin 1))).toNat
    rw [g.batchCoord_eq_zero _ _ (show (1 : Fin 3) ∉ ([0] : List (Fin 3)) by decide),
      g.offCoord_eq_zero _ _ fun h => ((g.mem_sKept _).mp h).1 (List.mem_singleton.mpr rfl)]
    unfold GatherDims.start
    rw [dif_pos h1]
    have hsi : g.siIdx (ix3 t s k) ⟨g.startIndexMap.idxOf 1, List.idxOf_lt_length_iff.2 h1⟩ = ix3 t s (0 : Fin 1) := by
      funext e
      match e with
      | ⟨0, _⟩ => exact Fin.ext rfl
      | ⟨1, _⟩ => exact Fin.ext rfl
      | ⟨2, _⟩ => exact Fin.ext rfl
    rw [hsi, toInt_label (hv _)]
    have := hv (ix3 t s (0 : Fin 1))
    show min ((v (ix3 t s (0 : Fin 1))).toNat : Int).toNat (100000 - 1) + 0 + 0 = _
    omega
  | ⟨2, _⟩ =>
    show g.start (ix3 t s k) v 2 + g.batchCoord (ix3 t s k) 2 + g.offCoord (ix3 t s k) 2 = k.val
    rw [g.batchCoord_eq_zero _ _ (show (2 : Fin 3) ∉ ([0] : List (Fin 3)) by decide)]
    have hst : g.start (ix3 t s k) v 2 = 0 := by
      unfold GatherDims.start
      exact dif_neg (show (2 : Fin 3) ∉ ([1] : List (Fin 3)) by decide)
    rw [hst]
    unfold GatherDims.offCoord
    rw [dif_pos ((g.mem_sKept _).mpr ⟨show (2 : Fin 3) ∉ ([1] : List (Fin 3)) by decide, show (2 : Fin 3) ∉ ([0] : List (Fin 3)) by decide⟩)]
    simp only [Nat.zero_add]
    rfl

/-- The reference's result at a sample, a table and a place. -/
theorem refOut_apply [FloatOps F] (a : IVec S16384x26 32) (b : S26x100000x16.Idx → F .f32) (ha : ∀ x, (a x).toNat < 100000)
    (s : Fin 16384) (t : Fin 26) (k : Fin 16) :
    refOut a b (ix3 s t k) = b (ix3 t ⟨(a (ix2 s t)).toNat, ha _⟩ k) := by
  refine (transpose_apply _ _ _ (ix3 s t k) (ix3 t s k) fun c => match c with | ⟨0, _⟩ => rfl | ⟨1, _⟩ => rfl | ⟨2, _⟩ => rfl).trans ?_
  rw [wrap_eq (look_lt ha)]
  have hm : broadcastInDim S26x16384x16 ![0, 1] bcast_S26x16384_S26x16384x16_0_1 (inside (look a)) (ix3 t s k) = 1#1 := inside_eq (look_lt ha) _
  show Scalar.select (broadcastInDim S26x16384x16 ![0, 1] bcast_S26x16384_S26x16384x16_0_1 (inside (look a)) (ix3 t s k))
    (Host.gather gather_S26x100000x16_S26x16384x1_S26x16384x16_2_1_0_0_1_2_1116 b (look a) (ix3 t s k)) _ = _
  rw [hm, gather_apply b (look a) (look_lt ha)]
  simp only [look_apply]
  rfl

end Cert.Proof.Ref

end
-- ==== Proof.Claims.lean ====
/-
  The claims: the two programs' frames from the one run, the reference's, and that the ideal program's result is the
  reference's.
-/
module

public import proofs.«01_k».proof.Defs
public import proofs.«01_k».proof.Proof.Gen.Kernel
public import proofs.«01_k».proof.Proof.Gen.Pre_in_range
public import proofs.«01_k».proof.Proof.Launch
public import proofs.«01_k».proof.Proof.Reference

@[expose] public section

noncomputable section

namespace Cert.Proof

open Idealize.ShloMosaic Idealize.SL.Sem
open Idealize.ShloMosaic.ValueIdx (ix1 ix2 ix3 eq_ix1 eq_ix2 eq_ix3)

/-! ## The precondition -/

/-- A word between zero and 100000 as the precondition compares it, both as signed words. -/
theorem word_lt (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Under the precondition every label is an entry of its table. -/
theorem labels_of_pre {F : FTy → Type} [FloatOps F] (a : IVec Cert.Pre_in_range.S16384x26 32) (b : FVec F Cert.Pre_in_range.S26x100000x16 .f32)
    (h : Cert.Pre_in_range.fn a b = fun _ => 1#1) (x : Cert.Pre_in_range.S16384x26.Idx) : (a x).toNat < 100000 := by
  haveI : Subsingleton Cert.Pre_in_range.S_.Idx := ⟨fun i j => funext fun c => c.elim0⟩
  exact word_lt _ (Host.reduce_andi_all _ _ _ _ (Shape.Idx.first Cert.Pre_in_range.Facts.h_S_) (congrFun h _) x)

/-! ## The frames -/

theorem frame_kernel : Cert.quiescent_Kernel := fun m ρ h =>
  (θ_run Cert.KernelIdeal.defs _ _).mono (fun _ r => ⟨fun c => ⟨(r.1 c).1, (r.1 c).2.1⟩, r.2⟩)
    (Slab.run_main (F := Bits) m ρ fun d => labels_of_pre _ _ (h d))

theorem frame_ideal : Cert.quiescent_KernelIdeal := fun m ρ h =>
  (θ_run Cert.KernelIdeal.defs _ _).mono (fun _ r => ⟨fun c => ⟨(r.1 c).1, (r.1 c).2.1⟩, r.2⟩)
    (Slab.run_main (F := Ideal) m ρ fun d => labels_of_pre _ _ (h d))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The value -/

/-- What the program returns is the reference's result, for any float values. -/
theorem result_eq {F : FTy → Type} [FloatOps F] (m : (ℓ : Loc Cert.KernelIdeal.nD Cert.KernelIdeal.τ Cert.KernelIdeal.sig) → Buf (Elt F) ℓ)
    (hpre : Slab.PreOK m) (d : Dev Cert.KernelIdeal.nD) :
    Slab.resultOf m hpre d = Ref.refOut (m (Slab.a0Loc d) : Cert.KernelIdeal.S16384x26.Idx → BitVec 32) (m (Slab.a1Loc d) : Cert.KernelIdeal.S26x100000x16.Idx → F .f32) := by
  funext y
  rw [eq_ix3 y]
  refine Eq.trans ?_ (Ref.refOut_apply _ _ (hpre d) (y 0) (y 1) (y 2)).symm
  refine (transpose_apply _ _ _ (ix3 (y 0) (y 1) (y 2)) (ix3 (y 1) (y 2) (y 0)) fun c => match c with | ⟨0, _⟩ => rfl | ⟨1, _⟩ => rfl | ⟨2, _⟩ => rfl).trans ?_
  have hl : Slab.labelsOf m d (ix2 (y 1) (y 0)) = (m (Slab.a0Loc d) : Cert.KernelIdeal.S16384x26.Idx → BitVec 32) (ix2 (y 0) (y 1)) :=
    ValueIdx.transpose_ix2_apply _ _ _ _
  have ht (e : Fin 100000) : Slab.tableOf m d (ix3 (y 1) (y 2) e) = (m (Slab.a1Loc d) : Cert.KernelIdeal.S26x100000x16.Idx → F .f32) (ix3 (y 1) e (y 2)) :=
    ValueIdx.transpose_ix3_021_apply _ _ _ _ _
  refine (ht _).trans ?_
  refine congrArg (fun e : Fin 100000 => (m (Slab.a1Loc d) : Cert.KernelIdeal.S26x100000x16.Idx → F .f32) (ix3 (y 1) e (y 2))) (Fin.ext ?_)
  exact congrArg BitVec.toNat hl

theorem algebraic : Cert.algebraic_KernelIdeal_ReferenceIdeal := by
  intro m ρ m' ρ' h hargs
  have hpre : Slab.PreOK m := fun d => labels_of_pre _ _ (h d)
  refine ⟨fun c => Slab.resultOf m hpre c, ?_, ?_⟩
  · exact (θ_run Cert.KernelIdeal.defs _ _).mono (fun _ r c => ⟨(r.1 c).2.2, (r.1 c).1, (r.1 c).2.1⟩) (Slab.run_main (F := Ideal) m ρ hpre)
  · refine (θ_run Cert.ReferenceIdeal.defs _ _).mono (fun r e c => ⟨(e c).1.trans ?_, (e c).2⟩) (Cert.ReferenceIdeal.Value.run (F := Ideal) m' ρ')
    rw [(hargs c).1, (hargs c).2]
    exact (result_eq m hpre c).symm

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_in_range.Gen.facts,
    frame_kernel, frame_ideal, frame_reference, fun m ρ _ => frame_reference m ρ trivial, trivial, algebraic⟩

end Cert.Proof

end
